-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![2048, 1024]⟩ ⟨2, ![4096, 1024]⟩ (Layout.meshBlock [2, 2, 4] ![[0], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![4096, 512]⟩ ⟨2, ![4096, 1024]⟩ (Layout.meshBlock [2, 2, 4] ![[], [0]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x1024 : Shape := ⟨2, ![2048, 1024]⟩
abbrev S4096x512 : Shape := ⟨2, ![4096, 512]⟩
abbrev S768x512 : Shape := ⟨2, ![768, 512]⟩
abbrev S6 : Shape := ⟨1, ![6]⟩
abbrev S5 : Shape := ⟨1, ![5]⟩
abbrev S_ : Shape := ⟨0, ![]⟩
abbrev S512x512 : Shape := ⟨2, ![512, 512]⟩
abbrev S1 : Shape := ⟨1, ![1]⟩
abbrev S128x512 : Shape := ⟨2, ![128, 512]⟩
abbrev S256x512 : Shape := ⟨2, ![256, 512]⟩
abbrev S2048x512 : Shape := ⟨2, ![2048, 512]⟩

abbrev nBuf : Space → Nat
  | .hbm => 2
  | .vmem => 3
  | .smem => 0
  | _ => 0

abbrev bufTy : (tb : Table) → Fin (tcTables nBuf tb) → BufTy
  | .hbm, ⟨0, _⟩ => ⟨S2048x1024, .bf16⟩
  | .hbm, ⟨1, _⟩ => ⟨S4096x512, .bf16⟩
  | .local _ .vmem, ⟨0, _⟩ => ⟨S2048x1024, .bf16⟩
  | .local _ .vmem, ⟨1, _⟩ => ⟨S4096x512, .bf16⟩
  | .local _ .vmem, ⟨2, _⟩ => ⟨S768x512, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  (ofTc nBuf bufTy 1 34 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_8 : BitVec 32 := 8#32
  let v16 : BitVec 32 := Scalar.muli v9 c8_i32_8
  let v17 : BitVec 32 := Scalar.addi c0_i32 v16
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_9 : BitVec 32 := 4#32
  let v18 : BitVec 32 := Scalar.muli v5 c4_i32_9
  let v19 : BitVec 32 := Scalar.addi v17 v18
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_10 : BitVec 32 := 1#32
  let v20 : BitVec 32 := Scalar.muli v8 c1_i32_10
  let v21 : BitVec 32 := Scalar.addi v19 v20
  v21.toNat
def k0_dev2 (d0 : Dev nD) : Nat :=
  let c0_i32_13 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_12 : BitVec 32 := 8#32
  let v22 : BitVec 32 := Scalar.muli v2 c8_i32_12
  let v23 : BitVec 32 := Scalar.addi c0_i32_13 v22
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_14 : BitVec 32 := 4#32
  let v24 : BitVec 32 := Scalar.muli v10 c4_i32_14
  let v25 : BitVec 32 := Scalar.addi v23 v24
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_15 : BitVec 32 := 1#32
  let v26 : BitVec 32 := Scalar.muli v8 c1_i32_15
  let v27 : BitVec 32 := Scalar.addi v25 v26
  v27.toNat
def k0_dev3 (d0 : Dev nD) : Nat :=
  let c0_i32_18 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_17 : BitVec 32 := 8#32
  let v28 : BitVec 32 := Scalar.muli v2 c8_i32_17
  let v29 : BitVec 32 := Scalar.addi c0_i32_18 v28
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_19 : BitVec 32 := 4#32
  let v30 : BitVec 32 := Scalar.muli v5 c4_i32_19
  let v31 : BitVec 32 := Scalar.addi v29 v30
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c2_i32_6 : BitVec 32 := 2#32
  let c2_i32_4 : BitVec 32 := 2#32
  let v11 : BitVec 32 := Scalar.remsi v8 c2_i32_4
  let v13 : BitVec 32 := Scalar.muli c2_i32_6 v11
  let v14 : BitVec 32 := Scalar.subi v12 v13
  let c1_i32_20 : BitVec 32 := 1#32
  let v32 : BitVec 32 := Scalar.muli v14 c1_i32_20
  let v33 : BitVec 32 := Scalar.addi v31 v32
  v33.toNat
def k0_off1 (d0 : Dev nD) : Fin 2 → Nat :=
  let c2_i32_21 : BitVec 32 := 2#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v34 : BitVec 32 := Scalar.muli c2_i32_21 v5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4 : BitVec 32 := 2#32
  let v11 : BitVec 32 := Scalar.remsi v8 c2_i32_4
  let v35 : BitVec 32 := Scalar.addi v34 v11
  let c512_i32_29 : BitVec 32 := 512#32
  let v50 : BitVec 32 := Scalar.muli v35 c512_i32_29
  let v52 : Index := Scalar.indexCast v50
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c512_i32_30 : BitVec 32 := 512#32
  let v51 : BitVec 32 := Scalar.muli v9 c512_i32_30
  let v53 : Index := Scalar.indexCast v51
  ![v52.toNat, v53.toNat]
def k0_off2 (d0 : Dev nD) (c0_i32_33 : BitVec 32) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v48 : BitVec 32 := Scalar.muli v2 c2048_i32
  let c2_i32_21 : BitVec 32 := 2#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v34 : BitVec 32 := Scalar.muli c2_i32_21 v5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4 : BitVec 32 := 2#32
  let v11 : BitVec 32 := Scalar.remsi v8 c2_i32_4
  let v35 : BitVec 32 := Scalar.addi v34 v11
  let c512_i32_32 : BitVec 32 := 512#32
  let v59 : BitVec 32 := Scalar.muli v35 c512_i32_32
  let v60 : BitVec 32 := Scalar.addi v48 v59
  let v61 : BitVec 32 := Scalar.addi v60 c0_i32_33
  let c0_i32_40 : BitVec 32 := 0#32
  ![v61.toNat, 0]
def k0_dev4 (d0 : Dev nD) : Nat :=
  let c0_i32_37 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_36 : BitVec 32 := 8#32
  let v62 : BitVec 32 := Scalar.muli v9 c8_i32_36
  let v63 : BitVec 32 := Scalar.addi c0_i32_37 v62
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_38 : BitVec 32 := 4#32
  let v64 : BitVec 32 := Scalar.muli v5 c4_i32_38
  let v65 : BitVec 32 := Scalar.addi v63 v64
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_39 : BitVec 32 := 1#32
  let v66 : BitVec 32 := Scalar.muli v8 c1_i32_39
  let v67 : BitVec 32 := Scalar.addi v65 v66
  v67.toNat
def k0_dev5 (d0 : Dev nD) : Nat :=
  let c0_i32_48 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_47 : BitVec 32 := 8#32
  let v77 : BitVec 32 := Scalar.muli v9 c8_i32_47
  let v78 : BitVec 32 := Scalar.addi c0_i32_48 v77
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_49 : BitVec 32 := 4#32
  let v79 : BitVec 32 := Scalar.muli v5 c4_i32_49
  let v80 : BitVec 32 := Scalar.addi v78 v79
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_50 : BitVec 32 := 1#32
  let v81 : BitVec 32 := Scalar.muli v8 c1_i32_50
  let v82 : BitVec 32 := Scalar.addi v80 v81
  v82.toNat
def k0_dev6 (d0 : Dev nD) : Nat :=
  let c0_i32_58 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_57 : BitVec 32 := 8#32
  let v92 : BitVec 32 := Scalar.muli v9 c8_i32_57
  let v93 : BitVec 32 := Scalar.addi c0_i32_58 v92
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_59 : BitVec 32 := 4#32
  let v94 : BitVec 32 := Scalar.muli v5 c4_i32_59
  let v95 : BitVec 32 := Scalar.addi v93 v94
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_60 : BitVec 32 := 1#32
  let v96 : BitVec 32 := Scalar.muli v8 c1_i32_60
  let v97 : BitVec 32 := Scalar.addi v95 v96
  v97.toNat
def k0_dev7 (d0 : Dev nD) : Nat :=
  let c0_i32_68 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_67 : BitVec 32 := 8#32
  let v107 : BitVec 32 := Scalar.muli v9 c8_i32_67
  let v108 : BitVec 32 := Scalar.addi c0_i32_68 v107
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_69 : BitVec 32 := 4#32
  let v109 : BitVec 32 := Scalar.muli v5 c4_i32_69
  let v110 : BitVec 32 := Scalar.addi v108 v109
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_70 : BitVec 32 := 1#32
  let v111 : BitVec 32 := Scalar.muli v8 c1_i32_70
  let v112 : BitVec 32 := Scalar.addi v110 v111
  v112.toNat
def k0_off3 (d0 : Dev nD) : Fin 2 → Nat :=
  let c2_i32_22 : BitVec 32 := 2#32
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let v36 : BitVec 32 := Scalar.muli c2_i32_22 v10
  let c1_i32_23 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4 : BitVec 32 := 2#32
  let v11 : BitVec 32 := Scalar.remsi v8 c2_i32_4
  let v37 : BitVec 32 := Scalar.subi c1_i32_23 v11
  let v38 : BitVec 32 := Scalar.addi v36 v37
  let c512_i32 : BitVec 32 := 512#32
  let v44 : BitVec 32 := Scalar.muli v38 c512_i32
  let c2_i32_27 : BitVec 32 := 2#32
  let v45 : BitVec 32 := Scalar.muli c2_i32_27 v11
  let c128_i32 : BitVec 32 := 128#32
  let v46 : BitVec 32 := Scalar.muli v45 c128_i32
  let v47 : BitVec 32 := Scalar.addi v44 v46
  let v120 : Index := Scalar.indexCast v47
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c512_i32_74 : BitVec 32 := 512#32
  let v119 : BitVec 32 := Scalar.muli v9 c512_i32_74
  let v121 : Index := Scalar.indexCast v119
  ![v120.toNat, v121.toNat]
def k0_off4 (d0 : Dev nD) (c0_i32_76 : BitVec 32) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v48 : BitVec 32 := Scalar.muli v2 c2048_i32
  let c2_i32_22 : BitVec 32 := 2#32
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let v36 : BitVec 32 := Scalar.muli c2_i32_22 v10
  let c1_i32_23 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4 : BitVec 32 := 2#32
  let v11 : BitVec 32 := Scalar.remsi v8 c2_i32_4
  let v37 : BitVec 32 := Scalar.subi c1_i32_23 v11
  let v38 : BitVec 32 := Scalar.addi v36 v37
  let c512_i32 : BitVec 32 := 512#32
  let v44 : BitVec 32 := Scalar.muli v38 c512_i32
  let c2_i32_27 : BitVec 32 := 2#32
  let v45 : BitVec 32 := Scalar.muli c2_i32_27 v11
  let c128_i32 : BitVec 32 := 128#32
  let v46 : BitVec 32 := Scalar.muli v45 c128_i32
  let v47 : BitVec 32 := Scalar.addi v44 v46
  let v127 : BitVec 32 := Scalar.addi v48 v47
  let v128 : BitVec 32 := Scalar.addi v127 c0_i32_76
  let c0_i32_83 : BitVec 32 := 0#32
  ![v128.toNat, 0]
def k0_dev8 (d0 : Dev nD) : Nat :=
  let c0_i32_80 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_79 : BitVec 32 := 8#32
  let v129 : BitVec 32 := Scalar.muli v9 c8_i32_79
  let v130 : BitVec 32 := Scalar.addi c0_i32_80 v129
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_81 : BitVec 32 := 4#32
  let v131 : BitVec 32 := Scalar.muli v5 c4_i32_81
  let v132 : BitVec 32 := Scalar.addi v130 v131
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_82 : BitVec 32 := 1#32
  let v133 : BitVec 32 := Scalar.muli v8 c1_i32_82
  let v134 : BitVec 32 := Scalar.addi v132 v133
  v134.toNat
def k0_dev9 (d0 : Dev nD) : Nat :=
  let c0_i32_89 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_88 : BitVec 32 := 8#32
  let v143 : BitVec 32 := Scalar.muli v9 c8_i32_88
  let v144 : BitVec 32 := Scalar.addi c0_i32_89 v143
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_90 : BitVec 32 := 4#32
  let v145 : BitVec 32 := Scalar.muli v5 c4_i32_90
  let v146 : BitVec 32 := Scalar.addi v144 v145
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_91 : BitVec 32 := 1#32
  let v147 : BitVec 32 := Scalar.muli v8 c1_i32_91
  let v148 : BitVec 32 := Scalar.addi v146 v147
  v148.toNat
def k0_off5 (d0 : Dev nD) (c0_i32_104 : BitVec 32) : Fin 2 → Nat :=
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c2048_i32_28 : BitVec 32 := 2048#32
  let v49 : BitVec 32 := Scalar.muli v9 c2048_i32_28
  let c2_i32_21 : BitVec 32 := 2#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v34 : BitVec 32 := Scalar.muli c2_i32_21 v5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4 : BitVec 32 := 2#32
  let v11 : BitVec 32 := Scalar.remsi v8 c2_i32_4
  let v35 : BitVec 32 := Scalar.addi v34 v11
  let c512_i32_103 : BitVec 32 := 512#32
  let v165 : BitVec 32 := Scalar.muli v35 c512_i32_103
  let v166 : BitVec 32 := Scalar.addi v49 v165
  let v167 : BitVec 32 := Scalar.addi v166 c0_i32_104
  let c0_i32_111 : BitVec 32 := 0#32
  ![v167.toNat, 0]
def k0_dev10 (d0 : Dev nD) : Nat :=
  let c0_i32_108 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_107 : BitVec 32 := 8#32
  let v168 : BitVec 32 := Scalar.muli v2 c8_i32_107
  let v169 : BitVec 32 := Scalar.addi c0_i32_108 v168
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_109 : BitVec 32 := 4#32
  let v170 : BitVec 32 := Scalar.muli v10 c4_i32_109
  let v171 : BitVec 32 := Scalar.addi v169 v170
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_110 : BitVec 32 := 1#32
  let v172 : BitVec 32 := Scalar.muli v8 c1_i32_110
  let v173 : BitVec 32 := Scalar.addi v171 v172
  v173.toNat
def k0_dev11 (d0 : Dev nD) : Nat :=
  let c0_i32_116 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_115 : BitVec 32 := 8#32
  let v180 : BitVec 32 := Scalar.muli v2 c8_i32_115
  let v181 : BitVec 32 := Scalar.addi c0_i32_116 v180
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_117 : BitVec 32 := 4#32
  let v182 : BitVec 32 := Scalar.muli v5 c4_i32_117
  let v183 : BitVec 32 := Scalar.addi v181 v182
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c2_i32_6 : BitVec 32 := 2#32
  let c2_i32_4 : BitVec 32 := 2#32
  let v11 : BitVec 32 := Scalar.remsi v8 c2_i32_4
  let v13 : BitVec 32 := Scalar.muli c2_i32_6 v11
  let v14 : BitVec 32 := Scalar.subi v12 v13
  let c1_i32_118 : BitVec 32 := 1#32
  let v184 : BitVec 32 := Scalar.muli v14 c1_i32_118
  let v185 : BitVec 32 := Scalar.addi v183 v184
  v185.toNat
def k0_dev12 (d0 : Dev nD) : Nat :=
  let c0_i32_135 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_134 : BitVec 32 := 8#32
  let v205 : BitVec 32 := Scalar.muli v2 c8_i32_134
  let v206 : BitVec 32 := Scalar.addi c0_i32_135 v205
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_136 : BitVec 32 := 4#32
  let v207 : BitVec 32 := Scalar.muli v10 c4_i32_136
  let v208 : BitVec 32 := Scalar.addi v206 v207
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_137 : BitVec 32 := 1#32
  let v209 : BitVec 32 := Scalar.muli v8 c1_i32_137
  let v210 : BitVec 32 := Scalar.addi v208 v209
  v210.toNat
def k0_dev13 (d0 : Dev nD) : Nat :=
  let c0_i32_143 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_142 : BitVec 32 := 8#32
  let v217 : BitVec 32 := Scalar.muli v2 c8_i32_142
  let v218 : BitVec 32 := Scalar.addi c0_i32_143 v217
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_144 : BitVec 32 := 4#32
  let v219 : BitVec 32 := Scalar.muli v5 c4_i32_144
  let v220 : BitVec 32 := Scalar.addi v218 v219
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c2_i32_6 : BitVec 32 := 2#32
  let c2_i32_4 : BitVec 32 := 2#32
  let v11 : BitVec 32 := Scalar.remsi v8 c2_i32_4
  let v13 : BitVec 32 := Scalar.muli c2_i32_6 v11
  let v14 : BitVec 32 := Scalar.subi v12 v13
  let c1_i32_145 : BitVec 32 := 1#32
  let v221 : BitVec 32 := Scalar.muli v14 c1_i32_145
  let v222 : BitVec 32 := Scalar.addi v220 v221
  v222.toNat
def k0_dev14 (d0 : Dev nD) : Nat :=
  let c0_i32_162 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_161 : BitVec 32 := 8#32
  let v242 : BitVec 32 := Scalar.muli v2 c8_i32_161
  let v243 : BitVec 32 := Scalar.addi c0_i32_162 v242
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_163 : BitVec 32 := 4#32
  let v244 : BitVec 32 := Scalar.muli v10 c4_i32_163
  let v245 : BitVec 32 := Scalar.addi v243 v244
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_164 : BitVec 32 := 1#32
  let v246 : BitVec 32 := Scalar.muli v8 c1_i32_164
  let v247 : BitVec 32 := Scalar.addi v245 v246
  v247.toNat
def k0_dev15 (d0 : Dev nD) : Nat :=
  let c0_i32_170 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_169 : BitVec 32 := 8#32
  let v254 : BitVec 32 := Scalar.muli v2 c8_i32_169
  let v255 : BitVec 32 := Scalar.addi c0_i32_170 v254
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_171 : BitVec 32 := 4#32
  let v256 : BitVec 32 := Scalar.muli v5 c4_i32_171
  let v257 : BitVec 32 := Scalar.addi v255 v256
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c2_i32_6 : BitVec 32 := 2#32
  let c2_i32_4 : BitVec 32 := 2#32
  let v11 : BitVec 32 := Scalar.remsi v8 c2_i32_4
  let v13 : BitVec 32 := Scalar.muli c2_i32_6 v11
  let v14 : BitVec 32 := Scalar.subi v12 v13
  let c1_i32_172 : BitVec 32 := 1#32
  let v258 : BitVec 32 := Scalar.muli v14 c1_i32_172
  let v259 : BitVec 32 := Scalar.addi v257 v258
  v259.toNat
def k0_dev16 (d0 : Dev nD) : Nat :=
  let c0_i32_189 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_188 : BitVec 32 := 8#32
  let v279 : BitVec 32 := Scalar.muli v2 c8_i32_188
  let v280 : BitVec 32 := Scalar.addi c0_i32_189 v279
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_190 : BitVec 32 := 4#32
  let v281 : BitVec 32 := Scalar.muli v10 c4_i32_190
  let v282 : BitVec 32 := Scalar.addi v280 v281
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_191 : BitVec 32 := 1#32
  let v283 : BitVec 32 := Scalar.muli v8 c1_i32_191
  let v284 : BitVec 32 := Scalar.addi v282 v283
  v284.toNat
def k0_dev17 (d0 : Dev nD) : Nat :=
  let c0_i32_197 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_196 : BitVec 32 := 8#32
  let v291 : BitVec 32 := Scalar.muli v2 c8_i32_196
  let v292 : BitVec 32 := Scalar.addi c0_i32_197 v291
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_198 : BitVec 32 := 4#32
  let v293 : BitVec 32 := Scalar.muli v5 c4_i32_198
  let v294 : BitVec 32 := Scalar.addi v292 v293
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c2_i32_6 : BitVec 32 := 2#32
  let c2_i32_4 : BitVec 32 := 2#32
  let v11 : BitVec 32 := Scalar.remsi v8 c2_i32_4
  let v13 : BitVec 32 := Scalar.muli c2_i32_6 v11
  let v14 : BitVec 32 := Scalar.subi v12 v13
  let c1_i32_199 : BitVec 32 := 1#32
  let v295 : BitVec 32 := Scalar.muli v14 c1_i32_199
  let v296 : BitVec 32 := Scalar.addi v294 v295
  v296.toNat
def k0_off6 (d0 : Dev nD) : Fin 1 → Nat :=
  let c2_i32_203 : BitVec 32 := 2#32
  let c1_i32_202 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4 : BitVec 32 := 2#32
  let v11 : BitVec 32 := Scalar.remsi v8 c2_i32_4
  let v303 : BitVec 32 := Scalar.subi c1_i32_202 v11
  let v304 : BitVec 32 := Scalar.muli c2_i32_203 v303
  ![v304.toNat]
def k0_off7 (d0 : Dev nD) : Fin 2 → Nat :=
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c2048_i32_28 : BitVec 32 := 2048#32
  let v49 : BitVec 32 := Scalar.muli v9 c2048_i32_28
  let c2_i32_25 : BitVec 32 := 2#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v41 : BitVec 32 := Scalar.muli c2_i32_25 v5
  let c1_i32_26 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4 : BitVec 32 := 2#32
  let v11 : BitVec 32 := Scalar.remsi v8 c2_i32_4
  let v42 : BitVec 32 := Scalar.subi c1_i32_26 v11
  let v43 : BitVec 32 := Scalar.addi v41 v42
  let c512_i32_204 : BitVec 32 := 512#32
  let v305 : BitVec 32 := Scalar.muli v43 c512_i32_204
  let v306 : BitVec 32 := Scalar.addi v49 v305
  let c2_i32_203 : BitVec 32 := 2#32
  let c1_i32_202 : BitVec 32 := 1#32
  let v303 : BitVec 32 := Scalar.subi c1_i32_202 v11
  let v304 : BitVec 32 := Scalar.muli c2_i32_203 v303
  let c128_i32_205 : BitVec 32 := 128#32
  let v307 : BitVec 32 := Scalar.muli v304 c128_i32_205
  let v308 : BitVec 32 := Scalar.addi v306 v307
  let c0_i32_211 : BitVec 32 := 0#32
  ![v308.toNat, 0]
def k0_dev18 (d0 : Dev nD) : Nat :=
  let c0_i32_219 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_218 : BitVec 32 := 8#32
  let v323 : BitVec 32 := Scalar.muli v2 c8_i32_218
  let v324 : BitVec 32 := Scalar.addi c0_i32_219 v323
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_220 : BitVec 32 := 4#32
  let v325 : BitVec 32 := Scalar.muli v10 c4_i32_220
  let v326 : BitVec 32 := Scalar.addi v324 v325
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_221 : BitVec 32 := 1#32
  let v327 : BitVec 32 := Scalar.muli v8 c1_i32_221
  let v328 : BitVec 32 := Scalar.addi v326 v327
  v328.toNat
def k0_off8 (d0 : Dev nD) : Fin 1 → Nat :=
  let c2_i32_224 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4 : BitVec 32 := 2#32
  let v11 : BitVec 32 := Scalar.remsi v8 c2_i32_4
  let v335 : BitVec 32 := Scalar.muli c2_i32_224 v11
  let c1_i32_225 : BitVec 32 := 1#32
  let v336 : BitVec 32 := Scalar.addi v335 c1_i32_225
  ![v336.toNat]
def k0_off9 (d0 : Dev nD) : Fin 2 → Nat :=
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c2048_i32_28 : BitVec 32 := 2048#32
  let v49 : BitVec 32 := Scalar.muli v9 c2048_i32_28
  let c2_i32_24 : BitVec 32 := 2#32
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let v39 : BitVec 32 := Scalar.muli c2_i32_24 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4 : BitVec 32 := 2#32
  let v11 : BitVec 32 := Scalar.remsi v8 c2_i32_4
  let v40 : BitVec 32 := Scalar.addi v39 v11
  let c512_i32_226 : BitVec 32 := 512#32
  let v337 : BitVec 32 := Scalar.muli v40 c512_i32_226
  let v338 : BitVec 32 := Scalar.addi v49 v337
  let c2_i32_224 : BitVec 32 := 2#32
  let v335 : BitVec 32 := Scalar.muli c2_i32_224 v11
  let c1_i32_225 : BitVec 32 := 1#32
  let v336 : BitVec 32 := Scalar.addi v335 c1_i32_225
  let c128_i32_227 : BitVec 32 := 128#32
  let v339 : BitVec 32 := Scalar.muli v336 c128_i32_227
  let v340 : BitVec 32 := Scalar.addi v338 v339
  let c0_i32_233 : BitVec 32 := 0#32
  ![v340.toNat, 0]
def k0_dev19 (d0 : Dev nD) : Nat :=
  let c0_i32_241 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_240 : BitVec 32 := 8#32
  let v355 : BitVec 32 := Scalar.muli v2 c8_i32_240
  let v356 : BitVec 32 := Scalar.addi c0_i32_241 v355
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_242 : BitVec 32 := 4#32
  let v357 : BitVec 32 := Scalar.muli v5 c4_i32_242
  let v358 : BitVec 32 := Scalar.addi v356 v357
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c2_i32_6 : BitVec 32 := 2#32
  let c2_i32_4 : BitVec 32 := 2#32
  let v11 : BitVec 32 := Scalar.remsi v8 c2_i32_4
  let v13 : BitVec 32 := Scalar.muli c2_i32_6 v11
  let v14 : BitVec 32 := Scalar.subi v12 v13
  let c1_i32_243 : BitVec 32 := 1#32
  let v359 : BitVec 32 := Scalar.muli v14 c1_i32_243
  let v360 : BitVec 32 := Scalar.addi v358 v359
  v360.toNat
def k0_off10 (d0 : Dev nD) : Fin 2 → Nat :=
  let c0_247 : Index := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c512_i32_246 : BitVec 32 := 512#32
  let v367 : BitVec 32 := Scalar.muli v2 c512_i32_246
  let v368 : Index := Scalar.indexCast v367
  ![0, v368.toNat]
def k0_off11 (d0 : Dev nD) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32_248 : BitVec 32 := 2048#32
  let v371 : BitVec 32 := Scalar.muli v2 c2048_i32_248
  let v372 : Index := Scalar.indexCast v371
  let c0_249 : Index := 0#32
  ![v372.toNat, 0]
def k0_cond1 (d0 : Dev nD) : BitVec 1 :=
  let c2_i32_224 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4 : BitVec 32 := 2#32
  let v11 : BitVec 32 := Scalar.remsi v8 c2_i32_4
  let v335 : BitVec 32 := Scalar.muli c2_i32_224 v11
  let c1_i32_225 : BitVec 32 := 1#32
  let v336 : BitVec 32 := Scalar.addi v335 c1_i32_225
  let c0_i32_268 : BitVec 32 := 0#32
  let v394 : BitVec 1 := Scalar.cmpi .ne v336 c0_i32_268
  let v395 : BitVec 32 := Scalar.extui v394
  let c0_i32_269 : BitVec 32 := 0#32
  let v396 : BitVec 1 := Scalar.cmpi .ne v395 c0_i32_269
  v396

def k0_off12 (d0 : Dev nD) : Fin 2 → Nat :=
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c2048_i32_28 : BitVec 32 := 2048#32
  let v49 : BitVec 32 := Scalar.muli v9 c2048_i32_28
  let c2_i32_24 : BitVec 32 := 2#32
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let v39 : BitVec 32 := Scalar.muli c2_i32_24 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4 : BitVec 32 := 2#32
  let v11 : BitVec 32 := Scalar.remsi v8 c2_i32_4
  let v40 : BitVec 32 := Scalar.addi v39 v11
  let c512_i32_395 : BitVec 32 := 512#32
  let v513 : BitVec 32 := Scalar.muli v40 c512_i32_395
  let v514 : BitVec 32 := Scalar.addi v49 v513
  let c0_i32_396 : BitVec 32 := 0#32
  let v515 : BitVec 32 := Scalar.addi v514 c0_i32_396
  let c0_i32_403 : BitVec 32 := 0#32
  ![v515.toNat, 0]
def k0_cond2 (d0 : Dev nD) : BitVec 1 :=
  let c2_i32_224 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4 : BitVec 32 := 2#32
  let v11 : BitVec 32 := Scalar.remsi v8 c2_i32_4
  let v335 : BitVec 32 := Scalar.muli c2_i32_224 v11
  let c1_i32_225 : BitVec 32 := 1#32
  let v336 : BitVec 32 := Scalar.addi v335 c1_i32_225
  let c1_i32_270 : BitVec 32 := 1#32
  let v397 : BitVec 1 := Scalar.cmpi .ne v336 c1_i32_270
  let v398 : BitVec 32 := Scalar.extui v397
  let c0_i32_271 : BitVec 32 := 0#32
  let v399 : BitVec 1 := Scalar.cmpi .ne v398 c0_i32_271
  v399

def k0_off13 (d0 : Dev nD) : Fin 2 → Nat :=
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c2048_i32_28 : BitVec 32 := 2048#32
  let v49 : BitVec 32 := Scalar.muli v9 c2048_i32_28
  let c2_i32_24 : BitVec 32 := 2#32
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let v39 : BitVec 32 := Scalar.muli c2_i32_24 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4 : BitVec 32 := 2#32
  let v11 : BitVec 32 := Scalar.remsi v8 c2_i32_4
  let v40 : BitVec 32 := Scalar.addi v39 v11
  let c512_i32_395 : BitVec 32 := 512#32
  let v513 : BitVec 32 := Scalar.muli v40 c512_i32_395
  let v514 : BitVec 32 := Scalar.addi v49 v513
  let c128_i32_396 : BitVec 32 := 128#32
  let v515 : BitVec 32 := Scalar.addi v514 c128_i32_396
  let c0_i32_403 : BitVec 32 := 0#32
  ![v515.toNat, 0]
def k0_cond3 (d0 : Dev nD) : BitVec 1 :=
  let c2_i32_224 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4 : BitVec 32 := 2#32
  let v11 : BitVec 32 := Scalar.remsi v8 c2_i32_4
  let v335 : BitVec 32 := Scalar.muli c2_i32_224 v11
  let c1_i32_225 : BitVec 32 := 1#32
  let v336 : BitVec 32 := Scalar.addi v335 c1_i32_225
  let c2_i32_272 : BitVec 32 := 2#32
  let v400 : BitVec 1 := Scalar.cmpi .ne v336 c2_i32_272
  let v401 : BitVec 32 := Scalar.extui v400
  let c0_i32_273 : BitVec 32 := 0#32
  let v402 : BitVec 1 := Scalar.cmpi .ne v401 c0_i32_273
  v402

def k0_off14 (d0 : Dev nD) : Fin 2 → Nat :=
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c2048_i32_28 : BitVec 32 := 2048#32
  let v49 : BitVec 32 := Scalar.muli v9 c2048_i32_28
  let c2_i32_24 : BitVec 32 := 2#32
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let v39 : BitVec 32 := Scalar.muli c2_i32_24 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4 : BitVec 32 := 2#32
  let v11 : BitVec 32 := Scalar.remsi v8 c2_i32_4
  let v40 : BitVec 32 := Scalar.addi v39 v11
  let c512_i32_395 : BitVec 32 := 512#32
  let v513 : BitVec 32 := Scalar.muli v40 c512_i32_395
  let v514 : BitVec 32 := Scalar.addi v49 v513
  let c256_i32_396 : BitVec 32 := 256#32
  let v515 : BitVec 32 := Scalar.addi v514 c256_i32_396
  let c0_i32_403 : BitVec 32 := 0#32
  ![v515.toNat, 0]
def k0_cond4 (d0 : Dev nD) : BitVec 1 :=
  let c2_i32_224 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4 : BitVec 32 := 2#32
  let v11 : BitVec 32 := Scalar.remsi v8 c2_i32_4
  let v335 : BitVec 32 := Scalar.muli c2_i32_224 v11
  let c1_i32_225 : BitVec 32 := 1#32
  let v336 : BitVec 32 := Scalar.addi v335 c1_i32_225
  let c3_i32_274 : BitVec 32 := 3#32
  let v403 : BitVec 1 := Scalar.cmpi .ne v336 c3_i32_274
  let v404 : BitVec 32 := Scalar.extui v403
  let c0_i32_275 : BitVec 32 := 0#32
  let v405 : BitVec 1 := Scalar.cmpi .ne v404 c0_i32_275
  v405

def k0_off15 (d0 : Dev nD) : Fin 2 → Nat :=
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c2048_i32_28 : BitVec 32 := 2048#32
  let v49 : BitVec 32 := Scalar.muli v9 c2048_i32_28
  let c2_i32_24 : BitVec 32 := 2#32
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let v39 : BitVec 32 := Scalar.muli c2_i32_24 v10
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4 : BitVec 32 := 2#32
  let v11 : BitVec 32 := Scalar.remsi v8 c2_i32_4
  let v40 : BitVec 32 := Scalar.addi v39 v11
  let c512_i32_395 : BitVec 32 := 512#32
  let v513 : BitVec 32 := Scalar.muli v40 c512_i32_395
  let v514 : BitVec 32 := Scalar.addi v49 v513
  let c384_i32_396 : BitVec 32 := 384#32
  let v515 : BitVec 32 := Scalar.addi v514 c384_i32_396
  let c0_i32_403 : BitVec 32 := 0#32
  ![v515.toNat, 0]
def k0_off16 (d0 : Dev nD) : Fin 2 → Nat :=
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c2048_i32_28 : BitVec 32 := 2048#32
  let v49 : BitVec 32 := Scalar.muli v9 c2048_i32_28
  let c2_i32_22 : BitVec 32 := 2#32
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let v36 : BitVec 32 := Scalar.muli c2_i32_22 v10
  let c1_i32_23 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4 : BitVec 32 := 2#32
  let v11 : BitVec 32 := Scalar.remsi v8 c2_i32_4
  let v37 : BitVec 32 := Scalar.subi c1_i32_23 v11
  let v38 : BitVec 32 := Scalar.addi v36 v37
  let c512_i32_276 : BitVec 32 := 512#32
  let v406 : BitVec 32 := Scalar.muli v38 c512_i32_276
  let v407 : BitVec 32 := Scalar.addi v49 v406
  let c2_i32_203 : BitVec 32 := 2#32
  let c1_i32_202 : BitVec 32 := 1#32
  let v303 : BitVec 32 := Scalar.subi c1_i32_202 v11
  let v304 : BitVec 32 := Scalar.muli c2_i32_203 v303
  let c128_i32_277 : BitVec 32 := 128#32
  let v408 : BitVec 32 := Scalar.muli v304 c128_i32_277
  let v409 : BitVec 32 := Scalar.addi v407 v408
  let c0_i32_284 : BitVec 32 := 0#32
  ![v409.toNat, 0]
def k0_cond5 (d0 : Dev nD) : BitVec 1 :=
  let c2_i32_203 : BitVec 32 := 2#32
  let c1_i32_202 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4 : BitVec 32 := 2#32
  let v11 : BitVec 32 := Scalar.remsi v8 c2_i32_4
  let v303 : BitVec 32 := Scalar.subi c1_i32_202 v11
  let v304 : BitVec 32 := Scalar.muli c2_i32_203 v303
  let c0_i32_287 : BitVec 32 := 0#32
  let v420 : BitVec 1 := Scalar.cmpi .ne v304 c0_i32_287
  let v421 : BitVec 32 := Scalar.extui v420
  let c0_i32_288 : BitVec 32 := 0#32
  let v422 : BitVec 1 := Scalar.cmpi .ne v421 c0_i32_288
  v422

def k0_off17 (d0 : Dev nD) : Fin 2 → Nat :=
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c2048_i32_28 : BitVec 32 := 2048#32
  let v49 : BitVec 32 := Scalar.muli v9 c2048_i32_28
  let c2_i32_25 : BitVec 32 := 2#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v41 : BitVec 32 := Scalar.muli c2_i32_25 v5
  let c1_i32_26 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4 : BitVec 32 := 2#32
  let v11 : BitVec 32 := Scalar.remsi v8 c2_i32_4
  let v42 : BitVec 32 := Scalar.subi c1_i32_26 v11
  let v43 : BitVec 32 := Scalar.addi v41 v42
  let c512_i32_395 : BitVec 32 := 512#32
  let v513 : BitVec 32 := Scalar.muli v43 c512_i32_395
  let v514 : BitVec 32 := Scalar.addi v49 v513
  let c0_i32_396 : BitVec 32 := 0#32
  let v515 : BitVec 32 := Scalar.addi v514 c0_i32_396
  let c0_i32_403 : BitVec 32 := 0#32
  ![v515.toNat, 0]
def k0_cond6 (d0 : Dev nD) : BitVec 1 :=
  let c2_i32_203 : BitVec 32 := 2#32
  let c1_i32_202 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4 : BitVec 32 := 2#32
  let v11 : BitVec 32 := Scalar.remsi v8 c2_i32_4
  let v303 : BitVec 32 := Scalar.subi c1_i32_202 v11
  let v304 : BitVec 32 := Scalar.muli c2_i32_203 v303
  let c1_i32_289 : BitVec 32 := 1#32
  let v423 : BitVec 1 := Scalar.cmpi .ne v304 c1_i32_289
  let v424 : BitVec 32 := Scalar.extui v423
  let c0_i32_290 : BitVec 32 := 0#32
  let v425 : BitVec 1 := Scalar.cmpi .ne v424 c0_i32_290
  v425

def k0_off18 (d0 : Dev nD) : Fin 2 → Nat :=
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c2048_i32_28 : BitVec 32 := 2048#32
  let v49 : BitVec 32 := Scalar.muli v9 c2048_i32_28
  let c2_i32_25 : BitVec 32 := 2#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v41 : BitVec 32 := Scalar.muli c2_i32_25 v5
  let c1_i32_26 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4 : BitVec 32 := 2#32
  let v11 : BitVec 32 := Scalar.remsi v8 c2_i32_4
  let v42 : BitVec 32 := Scalar.subi c1_i32_26 v11
  let v43 : BitVec 32 := Scalar.addi v41 v42
  let c512_i32_395 : BitVec 32 := 512#32
  let v513 : BitVec 32 := Scalar.muli v43 c512_i32_395
  let v514 : BitVec 32 := Scalar.addi v49 v513
  let c128_i32_396 : BitVec 32 := 128#32
  let v515 : BitVec 32 := Scalar.addi v514 c128_i32_396
  let c0_i32_403 : BitVec 32 := 0#32
  ![v515.toNat, 0]
def k0_cond7 (d0 : Dev nD) : BitVec 1 :=
  let c2_i32_203 : BitVec 32 := 2#32
  let c1_i32_202 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4 : BitVec 32 := 2#32
  let v11 : BitVec 32 := Scalar.remsi v8 c2_i32_4
  let v303 : BitVec 32 := Scalar.subi c1_i32_202 v11
  let v304 : BitVec 32 := Scalar.muli c2_i32_203 v303
  let c2_i32_291 : BitVec 32 := 2#32
  let v426 : BitVec 1 := Scalar.cmpi .ne v304 c2_i32_291
  let v427 : BitVec 32 := Scalar.extui v426
  let c0_i32_292 : BitVec 32 := 0#32
  let v428 : BitVec 1 := Scalar.cmpi .ne v427 c0_i32_292
  v428

def k0_off19 (d0 : Dev nD) : Fin 2 → Nat :=
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c2048_i32_28 : BitVec 32 := 2048#32
  let v49 : BitVec 32 := Scalar.muli v9 c2048_i32_28
  let c2_i32_25 : BitVec 32 := 2#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v41 : BitVec 32 := Scalar.muli c2_i32_25 v5
  let c1_i32_26 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4 : BitVec 32 := 2#32
  let v11 : BitVec 32 := Scalar.remsi v8 c2_i32_4
  let v42 : BitVec 32 := Scalar.subi c1_i32_26 v11
  let v43 : BitVec 32 := Scalar.addi v41 v42
  let c512_i32_395 : BitVec 32 := 512#32
  let v513 : BitVec 32 := Scalar.muli v43 c512_i32_395
  let v514 : BitVec 32 := Scalar.addi v49 v513
  let c256_i32_396 : BitVec 32 := 256#32
  let v515 : BitVec 32 := Scalar.addi v514 c256_i32_396
  let c0_i32_403 : BitVec 32 := 0#32
  ![v515.toNat, 0]
def k0_cond8 (d0 : Dev nD) : BitVec 1 :=
  let c2_i32_203 : BitVec 32 := 2#32
  let c1_i32_202 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4 : BitVec 32 := 2#32
  let v11 : BitVec 32 := Scalar.remsi v8 c2_i32_4
  let v303 : BitVec 32 := Scalar.subi c1_i32_202 v11
  let v304 : BitVec 32 := Scalar.muli c2_i32_203 v303
  let c3_i32_293 : BitVec 32 := 3#32
  let v429 : BitVec 1 := Scalar.cmpi .ne v304 c3_i32_293
  let v430 : BitVec 32 := Scalar.extui v429
  let c0_i32_294 : BitVec 32 := 0#32
  let v431 : BitVec 1 := Scalar.cmpi .ne v430 c0_i32_294
  v431

def k0_off20 (d0 : Dev nD) : Fin 2 → Nat :=
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c2048_i32_28 : BitVec 32 := 2048#32
  let v49 : BitVec 32 := Scalar.muli v9 c2048_i32_28
  let c2_i32_25 : BitVec 32 := 2#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v41 : BitVec 32 := Scalar.muli c2_i32_25 v5
  let c1_i32_26 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4 : BitVec 32 := 2#32
  let v11 : BitVec 32 := Scalar.remsi v8 c2_i32_4
  let v42 : BitVec 32 := Scalar.subi c1_i32_26 v11
  let v43 : BitVec 32 := Scalar.addi v41 v42
  let c512_i32_395 : BitVec 32 := 512#32
  let v513 : BitVec 32 := Scalar.muli v43 c512_i32_395
  let v514 : BitVec 32 := Scalar.addi v49 v513
  let c384_i32_396 : BitVec 32 := 384#32
  let v515 : BitVec 32 := Scalar.addi v514 c384_i32_396
  let c0_i32_403 : BitVec 32 := 0#32
  ![v515.toNat, 0]
def k0_off21 (d0 : Dev nD) : Fin 2 → Nat :=
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c2048_i32_28 : BitVec 32 := 2048#32
  let v49 : BitVec 32 := Scalar.muli v9 c2048_i32_28
  let c2_i32_22 : BitVec 32 := 2#32
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let v36 : BitVec 32 := Scalar.muli c2_i32_22 v10
  let c1_i32_23 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4 : BitVec 32 := 2#32
  let v11 : BitVec 32 := Scalar.remsi v8 c2_i32_4
  let v37 : BitVec 32 := Scalar.subi c1_i32_23 v11
  let v38 : BitVec 32 := Scalar.addi v36 v37
  let c512_i32_295 : BitVec 32 := 512#32
  let v432 : BitVec 32 := Scalar.muli v38 c512_i32_295
  let v433 : BitVec 32 := Scalar.addi v49 v432
  let c2_i32_297 : BitVec 32 := 2#32
  let c1_i32_296 : BitVec 32 := 1#32
  let v434 : BitVec 32 := Scalar.subi c1_i32_296 v11
  let v435 : BitVec 32 := Scalar.muli c2_i32_297 v434
  let c1_i32_298 : BitVec 32 := 1#32
  let v436 : BitVec 32 := Scalar.addi v435 c1_i32_298
  let c128_i32_299 : BitVec 32 := 128#32
  let v437 : BitVec 32 := Scalar.muli v436 c128_i32_299
  let v438 : BitVec 32 := Scalar.addi v433 v437
  let c0_i32_306 : BitVec 32 := 0#32
  ![v438.toNat, 0]
abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x1024 : Shape := ⟨2, ![4096, 1024]⟩

abbrev nBuf : Space → Nat
  | .hbm => 1
  | .vmem => 0
  | .smem => 0
  | _ => 0

abbrev bufTy : (tb : Table) → Fin (tcTables nBuf tb) → BufTy
  | .hbm, ⟨0, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.Mesh.lean ====
module

public import proofs.«01_k».proof.Proof.Gen.KernelIdeal

@[expose] public section

noncomputable section

namespace Cert.Proof

open Cert.KernelIdeal Cert.KernelIdeal.Gen
open Idealize.ShloMosaic

/-! ## The mesh: three neighbours of a device -/

/-- The neighbour on the first axis: it holds the other half of the rows. -/
def xd (c : Dev nD) : Dev nD := ⟨8 * (1 - c.val / 8) + c.val % 8, by have : c.val < 16 := c.isLt; show _ < 16; omega⟩
/-- The neighbour on the second axis. -/
def yd (c : Dev nD) : Dev nD := ⟨8 * (c.val / 8) + 4 * ((c.val / 4 + 1) % 2) + c.val % 4, by have : c.val < 16 := c.isLt; show _ < 16; omega⟩
/-- The neighbour on the third axis, inside a pair. -/
def zd (c : Dev nD) : Dev nD := ⟨2 * (c.val / 2) + (c.val + 1) % 2, by have : c.val < 16 := c.isLt; show _ < 16; omega⟩

/-- The three neighbours by a number. -/
def peerD (d : Fin 3) (c : Dev nD) : Dev nD := if d = 0 then xd c else if d = 1 then yd c else zd c

theorem peerD_peerD : ∀ (d : Fin 3) (c : Dev nD), peerD d (peerD d c) = c := by decide +kernel

/-- The number of the row half a device holds. -/
def hX (c : Dev nD) : Nat := c.val / 8
/-- The second mesh coordinate. -/
def hY (c : Dev nD) : Nat := (c.val / 4) % 2
/-- The place inside a pair of the third axis. -/
def hJ (c : Dev nD) : Nat := c.val % 2

/-- The quarter a device takes over from the other half. -/
def quar (c : Dev nD) : Nat := 2 * hY c + hJ c

/-! ## Chunks: 32 of 128 rows in the result, and who delivers which -/

/-- The place (of 32) in a device's result of the chunk an operation on its DMA cell `k` is about,
    written as a plain number: cells 6 to 11 receive from the first neighbour, 12 to 16 send to the
    second, 17 to 21 receive from it, 22 to 26 send to the third, 27 to 31 receive from it. -/
def slotN (c : Dev nD) (k : Nat) : Nat :=
  let b := (1 - hX c) * 16
  let q := quar c
  let xs (i : Nat) := if i < 4 then 4 * q + i else 4 * (3 - q) + 2 * hJ c + (i - 4)
  let ys (i : Nat) := if i < 4 then 4 * (2 * (1 - hY c) + hJ c) + i else 4 * (3 - q) + 2 * (1 - hJ c)
  let zs (i : Nat) := if i < 4 then 4 * (2 * hY c + (1 - hJ c)) + i else 4 * (3 - q) + 2 * (1 - hJ c) + 1
  b + (if k < 12 then xs (k % 6)
    else if k < 17 then (if k - 12 < 4 then xs (k - 12) else zs (2 * (1 - hJ c)))
    else if k < 22 then ys (k - 17)
    else if k < 27 then (if k - 22 < 4 then xs (k - 22) else ys (2 * hJ c + 1))
    else zs (k - 27))

theorem slotN_lt : ∀ (c : Dev nD) (k : Fin 32), slotN c k.val < 32 := by decide +kernel

/-- The chunk of DMA cell `k` of device `c`. -/
def slotK (c : Dev nD) (k : Fin 32) : Fin 32 := ⟨slotN c k.val, slotN_lt c k⟩

/-- The device whose rows end in chunk `n` of device `c`'s result. -/
def origin (c : Dev nD) (n : Nat) : Dev nD :=
  if n / 16 = hX c then c
  else
    let q' := n % 16 / 4
    if q' = quar c then xd c
    else if q' = 2 * (1 - hY c) + hJ c then xd (yd c)
    else if q' = 2 * hY c + (1 - hJ c) then xd (zd c)
    else if n % 4 / 2 = hJ c then xd c else xd (yd (zd c))

/-! ## The sixteen transfers of a device, in program order -/

/-- The direction of transfer `t`. -/
def tdir : Fin 16 → Fin 3 := ![0,0,0,0,0,0,1,2,1,2,1,2,1,2,1,2]
/-- The DMA cell a transfer completes on at its sender. -/
def sendk : Fin 16 → Fin 32 := ![0,1,2,3,4,5,12,22,13,23,14,24,15,25,16,26]
/-- The DMA cell a transfer completes on at its receiver. -/
def recvk : Fin 16 → Fin 32 := ![6,7,8,9,10,11,17,27,18,28,19,29,20,30,21,31]
/-- The receiver of transfer `t` of device `c`. -/
def peer (t : Fin 16) (c : Dev nD) : Dev nD := peerD (tdir t) c

theorem peer_peer (t : Fin 16) (c : Dev nD) : peer t (peer t c) = c := peerD_peerD _ _

/-- A chunk passed on keeps its place. -/
theorem slot_pass : ∀ (t : Fin 16), 6 ≤ t.val → ∀ c : Dev nD, slotK (peer t c) (recvk t) = slotK c (sendk t) := by decide +kernel

/-- A chunk passed on keeps its origin. -/
theorem origin_pass : ∀ (t : Fin 16), 6 ≤ t.val → ∀ c : Dev nD,
    origin (peer t c) (slotN c (sendk t).val) = origin c (slotN c (sendk t).val) ∧ hX (peer t c) = hX c := by decide +kernel

/-- A chunk taken from the first neighbour is its own. -/
theorem origin_x : ∀ (t : Fin 16), t.val < 6 → ∀ c : Dev nD, origin (xd c) (slotN (xd c) (recvk t).val) = c := by decide +kernel

theorem origin_own (c : Dev nD) (n : Nat) (h : n / 16 = hX c) : origin c n = c := by simp [origin, h]

/-- The origin of a chunk holds the half of the rows the chunk lies in. -/
theorem hX_origin : ∀ (c : Dev nD) (n : Fin 32), hX (origin c n.val) = n.val / 16 := by decide +kernel

/-! ## The printed offsets, devices and conditions in these terms -/

theorem off2_at0 : ∀ c : Dev nD, k0_off2 c 0#32 = ![128 * (slotK (xd c) 6).val, 0] := by decide +kernel
theorem off2_at1 : ∀ c : Dev nD, k0_off2 c 128#32 = ![128 * (slotK (xd c) 7).val, 0] := by decide +kernel
theorem off2_at2 : ∀ c : Dev nD, k0_off2 c 256#32 = ![128 * (slotK (xd c) 8).val, 0] := by decide +kernel
theorem off2_at3 : ∀ c : Dev nD, k0_off2 c 384#32 = ![128 * (slotK (xd c) 9).val, 0] := by decide +kernel
theorem off4_at0 : ∀ c : Dev nD, k0_off4 c 0#32 = ![128 * (slotK (xd c) 10).val, 0] := by decide +kernel
theorem off4_at1 : ∀ c : Dev nD, k0_off4 c 128#32 = ![128 * (slotK (xd c) 11).val, 0] := by decide +kernel
theorem off5_at0 : ∀ c : Dev nD, k0_off5 c 0#32 = ![128 * (slotK c 6).val, 0] := by decide +kernel
theorem off5_at1 : ∀ c : Dev nD, k0_off5 c 128#32 = ![128 * (slotK c 7).val, 0] := by decide +kernel
theorem off5_at2 : ∀ c : Dev nD, k0_off5 c 256#32 = ![128 * (slotK c 8).val, 0] := by decide +kernel
theorem off5_at3 : ∀ c : Dev nD, k0_off5 c 384#32 = ![128 * (slotK c 9).val, 0] := by decide +kernel
theorem off7_at : ∀ c : Dev nD, k0_off7 c = ![128 * (slotK c 16).val, 0] := by decide +kernel
theorem off9_at : ∀ c : Dev nD, k0_off9 c = ![128 * (slotK c 26).val, 0] := by decide +kernel
theorem off1_at : ∀ c : Dev nD, k0_off1 c = ![128 * (slotN (xd c) 6 % 16), 512 * (1 - hX c)] := by decide +kernel
theorem off3_at : ∀ c : Dev nD, k0_off3 c = ![128 * (slotN (xd c) 10 % 16), 512 * (1 - hX c)] := by decide +kernel
theorem off10_at : ∀ c : Dev nD, k0_off10 c = ![0, 512 * hX c] := by decide +kernel
theorem off11_at : ∀ c : Dev nD, k0_off11 c = ![2048 * hX c, 0] := by decide +kernel
theorem off6_at : ∀ c : Dev nD, k0_off6 c = ![2 * (1 - hJ c)] := by decide +kernel
theorem off8_at : ∀ c : Dev nD, k0_off8 c = ![2 * hJ c + 1] := by decide +kernel

theorem dev1_at : ∀ c : Dev nD, (⟨k0_dev1 c, k0_dev1_lt c⟩ : Dev nD) = xd c := by decide +kernel
theorem dev2_at : ∀ c : Dev nD, (⟨k0_dev2 c, k0_dev2_lt c⟩ : Dev nD) = yd c := by decide +kernel
theorem dev3_at : ∀ c : Dev nD, (⟨k0_dev3 c, k0_dev3_lt c⟩ : Dev nD) = zd c := by decide +kernel
theorem dev4_at : ∀ c : Dev nD, (⟨k0_dev4 c, k0_dev4_lt c⟩ : Dev nD) = xd c := by decide +kernel
theorem dev5_at : ∀ c : Dev nD, (⟨k0_dev5 c, k0_dev5_lt c⟩ : Dev nD) = xd c := by decide +kernel
theorem dev6_at : ∀ c : Dev nD, (⟨k0_dev6 c, k0_dev6_lt c⟩ : Dev nD) = xd c := by decide +kernel
theorem dev7_at : ∀ c : Dev nD, (⟨k0_dev7 c, k0_dev7_lt c⟩ : Dev nD) = xd c := by decide +kernel
theorem dev8_at : ∀ c : Dev nD, (⟨k0_dev8 c, k0_dev8_lt c⟩ : Dev nD) = xd c := by decide +kernel
theorem dev9_at : ∀ c : Dev nD, (⟨k0_dev9 c, k0_dev9_lt c⟩ : Dev nD) = xd c := by decide +kernel
theorem dev10_at : ∀ c : Dev nD, (⟨k0_dev10 c, k0_dev10_lt c⟩ : Dev nD) = yd c := by decide +kernel
theorem dev11_at : ∀ c : Dev nD, (⟨k0_dev11 c, k0_dev11_lt c⟩ : Dev nD) = zd c := by decide +kernel
theorem dev12_at : ∀ c : Dev nD, (⟨k0_dev12 c, k0_dev12_lt c⟩ : Dev nD) = yd c := by decide +kernel
theorem dev13_at : ∀ c : Dev nD, (⟨k0_dev13 c, k0_dev13_lt c⟩ : Dev nD) = zd c := by decide +kernel
theorem dev14_at : ∀ c : Dev nD, (⟨k0_dev14 c, k0_dev14_lt c⟩ : Dev nD) = yd c := by decide +kernel
theorem dev15_at : ∀ c : Dev nD, (⟨k0_dev15 c, k0_dev15_lt c⟩ : Dev nD) = zd c := by decide +kernel
theorem dev16_at : ∀ c : Dev nD, (⟨k0_dev16 c, k0_dev16_lt c⟩ : Dev nD) = yd c := by decide +kernel
theorem dev17_at : ∀ c : Dev nD, (⟨k0_dev17 c, k0_dev17_lt c⟩ : Dev nD) = zd c := by decide +kernel
theorem dev18_at : ∀ c : Dev nD, (⟨k0_dev18 c, k0_dev18_lt c⟩ : Dev nD) = yd c := by decide +kernel
theorem dev19_at : ∀ c : Dev nD, (⟨k0_dev19 c, k0_dev19_lt c⟩ : Dev nD) = zd c := by decide +kernel

theorem cond1_at : ∀ c : Dev nD, k0_cond1 c = 1#1 ↔ ¬ 0 = 2 * hJ c + 1 := by decide +kernel
theorem cond2_at : ∀ c : Dev nD, k0_cond2 c = 1#1 ↔ ¬ 1 = 2 * hJ c + 1 := by decide +kernel
theorem cond3_at : ∀ c : Dev nD, k0_cond3 c = 1#1 ↔ ¬ 2 = 2 * hJ c + 1 := by decide +kernel
theorem cond4_at : ∀ c : Dev nD, k0_cond4 c = 1#1 ↔ ¬ 3 = 2 * hJ c + 1 := by decide +kernel
theorem cond5_at : ∀ c : Dev nD, k0_cond5 c = 1#1 ↔ ¬ 0 = 2 * (1 - hJ c) := by decide +kernel
theorem cond6_at : ∀ c : Dev nD, k0_cond6 c = 1#1 ↔ ¬ 1 = 2 * (1 - hJ c) := by decide +kernel
theorem cond7_at : ∀ c : Dev nD, k0_cond7 c = 1#1 ↔ ¬ 2 = 2 * (1 - hJ c) := by decide +kernel
theorem cond8_at : ∀ c : Dev nD, k0_cond8 c = 1#1 ↔ ¬ 3 = 2 * (1 - hJ c) := by decide +kernel

end Cert.Proof

end
-- ==== Proof.Chunks.lean ====
module

public import proofs.«01_k».proof.Proof.Mesh
public import proofs.«01_k».proof.Proof.Gen.KernelIdeal.Skeleton
public import Idealize.ShloMosaic.Lib.Pipeline.Launch
public import Idealize.ShloMosaic.Lib.Pipeline.Kit
public import Idealize.ShloMosaic.Lib.Tactic
public import Idealize.ShloMosaic.Lib.Pointwise.Reshape

@[expose] public section

noncomputable section

namespace Cert.Proof

open Cert.KernelIdeal Cert.KernelIdeal.Gen
open Idealize.ShloMosaic Idealize.ShloMosaic.TcCoe

variable {F : FTy → Type} [FloatOps F]

/-! ## The kernel's three buffers, and their chunks of 128 rows -/

/-- The staged block of the operand, the staged result, the send buffer. -/
abbrev xM : Memref sig .tc .vmem S2048x1024 .bf16 := Memref.whole cc0_stg0_0
abbrev oM : Memref sig .tc .vmem S4096x512 .bf16 := Memref.whole cc0_stg1_0
abbrev sM : Memref sig .tc .vmem S768x512 .bf16 := Memref.whole cc0_scratch0

theorem ock_inb (n : Fin 32) : ∀ a, ![128 * n.val, 0] a + S128x512.size a ≤ S4096x512.size a := by
  have := n.isLt
  intro a; fin_cases a
  · show 128 * n.val + 128 ≤ 4096; omega
  · show 0 + 512 ≤ 512; omega

theorem sck_inb (n : Fin 6) : ∀ a, ![128 * n.val, 0] a + S128x512.size a ≤ S768x512.size a := by
  have := n.isLt
  intro a; fin_cases a
  · show 128 * n.val + 128 ≤ 768; omega
  · show 0 + 512 ≤ 512; omega

/-- Chunk `n` of the staged result. -/
def ock (n : Fin 32) : Memref sig .tc .vmem S128x512 .bf16 :=
  oM.slice (Rect.unit (s := S4096x512) ![128 * n.val, 0] S128x512.size (ock_inb n)) (fun _ => rfl)
/-- Chunk `n` of the send buffer. -/
def sck (n : Fin 6) : Memref sig .tc .vmem S128x512 .bf16 :=
  sM.slice (Rect.unit (s := S768x512) ![128 * n.val, 0] S128x512.size (sck_inb n)) (fun _ => rfl)

/-- A slice at a chunk's offset is the chunk. -/
theorem ock_of {off : Fin 2 → Nat} (n : Fin 32) (h : off = ![128 * n.val, 0]) (inb : ∀ a, off a + S128x512.size a ≤ S4096x512.size a)
    (hs : ∀ a, (Rect.unit (s := S4096x512) off S128x512.size inb).stride a = 1) :
    oM.slice (Rect.unit (s := S4096x512) off S128x512.size inb) hs = ock n := by subst h; rfl
theorem sck_of {off : Fin 2 → Nat} (n : Fin 6) (h : off = ![128 * n.val, 0]) (inb : ∀ a, off a + S128x512.size a ≤ S768x512.size a)
    (hs : ∀ a, (Rect.unit (s := S768x512) off S128x512.size inb).stride a = 1) :
    sM.slice (Rect.unit (s := S768x512) off S128x512.size inb) hs = sck n := by subst h; rfl

/-- The bytes one chunk credits. -/
def N : ℕ := (ock 0).view.dmaCredit
theorem N_pos : 0 < N := View.dmaCredit_pos _ (by decide)
theorem ock_credit (n : Fin 32) : (ock n).view.dmaCredit = N := rfl
theorem sck_credit (n : Fin 6) : (sck n).view.dmaCredit = N := rfl

/-- The elements of a chunk, and the set of them. -/
abbrev ockE (n : Fin 32) (j : S128x512.Idx) : S4096x512.Idx := (ock n).view.emb j
abbrev sckE (n : Fin 6) (j : S128x512.Idx) : S768x512.Idx := (sck n).view.emb j
abbrev ockS (n : Fin 32) : Finset S4096x512.Idx := (ock n).view.set
abbrev sckS (n : Fin 6) : Finset S768x512.Idx := (sck n).view.set

theorem ock_emb0 (n : Fin 32) (j : S128x512.Idx) : ((ockE n j) 0 : Nat) = 128 * n.val + (j 0).val := by
  show 128 * n.val + 1 * (j 0).val = _; omega
theorem ock_emb1 (n : Fin 32) (j : S128x512.Idx) : ((ockE n j) 1 : Nat) = (j 1).val := by
  show 0 + 1 * (j 1).val = _; omega
theorem sck_emb0 (n : Fin 6) (j : S128x512.Idx) : ((sckE n j) 0 : Nat) = 128 * n.val + (j 0).val := by
  show 128 * n.val + 1 * (j 0).val = _; omega
theorem sck_emb1 (n : Fin 6) (j : S128x512.Idx) : ((sckE n j) 1 : Nat) = (j 1).val := by
  show 0 + 1 * (j 1).val = _; omega

/-- The set of elements of a chunk: those in its rows. -/
theorem mem_ock (n : Fin 32) (i : S4096x512.Idx) : i ∈ ockS n ↔ (i 0).val / 128 = n.val := by
  have hs : ockS n = (Rect.unit (s := S4096x512) ![128 * n.val, 0] S128x512.size (ock_inb n)).set := View.set_slice_whole _ _
  rw [hs, Rect.mem_set_unit]
  have h1 : (i 1).val < 512 := (i 1).isLt
  constructor
  · intro h
    have h0 := h 0
    have : 128 * n.val ≤ (i 0).val ∧ (i 0).val < 128 * n.val + 128 := h0
    omega
  · intro h a
    fin_cases a
    · show 128 * n.val ≤ (i 0).val ∧ (i 0).val < 128 * n.val + 128; omega
    · show 0 ≤ (i 1).val ∧ (i 1).val < 0 + 512; omega
theorem mem_sck (n : Fin 6) (i : S768x512.Idx) : i ∈ sckS n ↔ (i 0).val / 128 = n.val := by
  have hs : sckS n = (Rect.unit (s := S768x512) ![128 * n.val, 0] S128x512.size (sck_inb n)).set := View.set_slice_whole _ _
  rw [hs, Rect.mem_set_unit]
  have h1 : (i 1).val < 512 := (i 1).isLt
  constructor
  · intro h
    have h0 := h 0
    have : 128 * n.val ≤ (i 0).val ∧ (i 0).val < 128 * n.val + 128 := h0
    omega
  · intro h a
    fin_cases a
    · show 128 * n.val ≤ (i 0).val ∧ (i 0).val < 128 * n.val + 128; omega
    · show 0 ≤ (i 1).val ∧ (i 1).val < 0 + 512; omega

theorem ock_disj {n n' : Fin 32} (h : n ≠ n') : Disjoint (ockS n) (ockS n') :=
  Finset.disjoint_left.mpr fun i hi hi' => h (Fin.ext (((mem_ock n i).mp hi).symm.trans ((mem_ock n' i).mp hi')))
theorem sck_disj {n n' : Fin 6} (h : n ≠ n') : Disjoint (sckS n) (sckS n') :=
  Finset.disjoint_left.mpr fun i hi hi' => h (Fin.ext (((mem_sck n i).mp hi).symm.trans ((mem_sck n' i).mp hi')))

/-! ## Contents -/

/-- The element of a block at a row and a column, both taken round the block's sizes. -/
def at2 (r q : Nat) : S2048x1024.Idx := fun a => match a with
  | ⟨0, _⟩ => ⟨r % 2048, Nat.mod_lt _ (by decide)⟩
  | ⟨1, _⟩ => ⟨q % 1024, Nat.mod_lt _ (by decide)⟩

theorem eq_at2 (j : S2048x1024.Idx) (r q : Nat) (hr : (j 0).val = r % 2048) (hq : (j 1).val = q % 1024) : j = at2 r q := by
  funext a; fin_cases a
  · exact Fin.ext hr
  · exact Fin.ext hq

theorem at2_congr {r r' q q' : Nat} (hr : r % 2048 = r' % 2048) (hq : q = q') : at2 r q = at2 r' q' := by
  subst hq; funext a; fin_cases a
  · exact Fin.ext hr
  · rfl

/-- The blocks the devices hold. -/
abbrev Blocks (F : FTy → Type) : Type := Dev nD → (cc0_stg0_0 : Ref sig .tc).ty.Contents (Elt F)

variable (X : Blocks F)

/-- The finished result of device `c`: each row from the device its chunk comes from. -/
def outF (c : Dev nD) : (cc0_stg1_0 : Ref sig .tc).ty.Contents (Elt F) :=
  fun i => X (origin c ((i 0).val / 128)) (at2 (i 0).val (512 * hX c + (i 1).val))

/-- The filled send buffer of device `c`: six chunks of its own block, for its first neighbour. -/
def scrF (c : Dev nD) : (cc0_scratch0 : Ref sig .tc).ty.Contents (Elt F) :=
  fun i => X c (at2 (128 * slotN (xd c) (6 + (i 0).val / 128) + (i 0).val % 128) (512 * (1 - hX c) + (i 1).val))

theorem hX_xd : ∀ c : Dev nD, hX (xd c) = 1 - hX c := by decide +kernel
theorem hX_le : ∀ c : Dev nD, hX c ≤ 1 := by decide +kernel

theorem ock_write (n : Fin 32) (fd : (cc0_stg1_0 : Ref sig .tc).ty.Contents (Elt F)) (w : S128x512.Idx → Elt F .bf16) (j : S128x512.Idx) :
    (ock n).view.write (Elt F) fd w Finset.univ ((ock n).view.emb j) = w j := View.write_emb_of_mem (v := (ock n).view) fd w (Finset.mem_univ j)
theorem ock_read (n : Fin 32) (f : (cc0_stg1_0 : Ref sig .tc).ty.Contents (Elt F)) (j : S128x512.Idx) :
    (ock n).view.read (Elt F) f j = f (ockE n j) := rfl
theorem sck_read (n : Fin 6) (f : (cc0_scratch0 : Ref sig .tc).ty.Contents (Elt F)) (j : S128x512.Idx) :
    (sck n).view.read (Elt F) f j = f (sckE n j) := rfl

theorem recvk_x : ∀ t : Fin 16, t.val < 6 → (recvk t).val = 6 + t.val := by decide

/-- What the sending of chunk `t` of the send buffer writes at the first neighbour is the neighbour's finished result there. -/
theorem land_x (c : Dev nD) (t : Fin 16) (ht : t.val < 6) (i : Fin 6) (hi : i.val = t.val) (n : Fin 32) (hn : n = slotK (xd c) (recvk t))
    (fd : (cc0_stg1_0 : Ref sig .tc).ty.Contents (Elt F)) :
    ∀ e ∈ (ock n).view.set, (ock n).view.write (Elt F) fd ((sck i).view.read (Elt F) (scrF X c)) Finset.univ e = outF X (xd c) e := by
  intro e he
  obtain ⟨j, -, rfl⟩ := Finset.mem_map.mp he
  have hj : (j 0).val < 128 := (j 0).isLt
  refine (ock_write n fd _ j).trans ((sck_read i _ j).trans ?_)
  unfold outF scrF
  have hrk := recvk_x t ht
  have h0 := ock_emb0 n j
  have h1 := ock_emb1 n j
  have h2 := sck_emb0 i j
  have h3 := sck_emb1 i j
  have hd : (128 * n.val + (j 0).val) / 128 = n.val := by omega
  have hd' : (128 * i.val + (j 0).val) / 128 = i.val := by omega
  have hnv : n.val = slotN (xd c) (recvk t).val := by rw [hn]; rfl
  have ho := origin_x t ht c
  rw [← hnv] at ho
  rw [h0, h1, h2, h3, hd, hd', ho]
  congr 1
  refine at2_congr ?_ (by rw [hX_xd])
  rw [hi, ← hrk, ← hnv]
  have : (128 * t.val + (j 0).val) % 128 = (j 0).val := by omega
  rw [this]

/-- What passing a finished chunk on writes at the receiver is the receiver's finished result there. -/
theorem land_pass (c : Dev nD) (t : Fin 16) (ht : 6 ≤ t.val) (n : Fin 32) (hn : n = slotK c (sendk t))
    (fd : (cc0_stg1_0 : Ref sig .tc).ty.Contents (Elt F)) :
    ∀ e ∈ (ock n).view.set, (ock n).view.write (Elt F) fd ((ock n).view.read (Elt F) (outF X c)) Finset.univ e = outF X (peer t c) e := by
  intro e he
  obtain ⟨j, -, rfl⟩ := Finset.mem_map.mp he
  have hj : (j 0).val < 128 := (j 0).isLt
  refine (ock_write n fd _ j).trans ((ock_read n _ j).trans ?_)
  unfold outF
  have h0 := ock_emb0 n j
  have hd : (128 * n.val + (j 0).val) / 128 = n.val := by omega
  have hnv : n.val = slotN c (sendk t).val := by rw [hn]; rfl
  obtain ⟨ho, hx⟩ := origin_pass t ht c
  rw [← hnv] at ho
  rw [h0, hd, ho, hx]

/-! ## What the kernel's three loads and stores leave -/

theorem slot_run1 : ∀ (c : Dev nD) (a : Fin 4), slotN (xd c) (6 + a.val) = slotN (xd c) 6 + a.val := by decide +kernel
theorem slot_run2 : ∀ (c : Dev nD) (a : Fin 2), slotN (xd c) (10 + a.val) = slotN (xd c) 10 + a.val := by decide +kernel

theorem slot_room : ∀ c : Dev nD, slotN (xd c) 6 % 16 ≤ 12 ∧ slotN (xd c) 10 % 16 ≤ 14 := by decide +kernel

/-- An element in the rectangle of a store to a whole buffer is one of the rectangle's. -/
theorem exists_emb {b : Ref sig .tc} (r : Rect b.ty.shape) (i : b.ty.Idx) (h : i ∈ r.set) : ∃ j, r.emb j = i := by
  rw [← Rect.map_emb_univ] at h
  obtain ⟨j, -, hj⟩ := Finset.mem_map.mp h
  exact ⟨j, hj⟩

/-- The first load and store fill the first four chunks of the send buffer. -/
theorem fill1 (c : Dev nD) (f : (cc0_scratch0 : Ref sig .tc).ty.Contents (Elt F)) (ir : ∀ a, k0_off1 c a + S512x512.size a ≤ S2048x1024.size a)
    (is : ∀ a, ![0, 0] a + S512x512.size a ≤ S768x512.size a) (i : S768x512.Idx) (hi : (i 0).val < 512) :
    (sM.access (Rect.unit (s := S768x512) ![0, 0] S512x512.size is)).write (Elt F) f
      (k0_pay1 (xM.view.readAt (Elt F) (Rect.unit (s := S2048x1024) (k0_off1 c) S512x512.size ir).toLoadRect (X c))) Finset.univ i = scrF X c i := by
  have h1 : (i 1).val < 512 := (i 1).isLt
  obtain ⟨j, rfl⟩ := exists_emb (b := cc0_scratch0) (Rect.unit (s := S768x512) ![0, 0] S512x512.size is) i (by
    rw [Rect.mem_set_unit]; intro a; fin_cases a
    · show 0 ≤ (i 0).val ∧ (i 0).val < 0 + 512; omega
    · show 0 ≤ (i 1).val ∧ (i 1).val < 0 + 512; omega)
  refine (View.write_emb_of_mem (v := sM.access (Rect.unit (s := S768x512) ![0, 0] S512x512.size is)) f _ (Finset.mem_univ j)).trans ?_
  show k0_pay1 (xM.view.readAt (Elt F) (Rect.unit (s := S2048x1024) (k0_off1 c) S512x512.size ir).toLoadRect (X c)) j = _
  unfold k0_pay1
  rw [shapeCast_id, shapeCast_id]
  unfold scrF
  show X c ((Rect.unit (s := S2048x1024) (k0_off1 c) S512x512.size ir).emb j) = _
  congr 1
  have hj0 : (j 0).val < 512 := (j 0).isLt
  have hj1 : (j 1).val < 512 := (j 1).isLt
  have hx := hX_le c
  have e0 : (((Rect.unit (s := S768x512) ![0, 0] S512x512.size is).emb j) 0 : Nat) = (j 0).val := by show 0 + 1 * (j 0).val = _; omega
  have e1 : (((Rect.unit (s := S768x512) ![0, 0] S512x512.size is).emb j) 1 : Nat) = (j 1).val := by show 0 + 1 * (j 1).val = _; omega
  have hr := slot_room c
  have hs := slot_run1 c ⟨(j 0).val / 128, by omega⟩
  dsimp only at hs
  rw [e0, e1, hs]
  have o0 : k0_off1 c 0 = 128 * (slotN (xd c) 6 % 16) := by rw [off1_at]; rfl
  have o1 : k0_off1 c 1 = 512 * (1 - hX c) := by rw [off1_at]; rfl
  apply eq_at2
  · show k0_off1 c 0 + 1 * (j 0).val = _; rw [o0]; omega
  · show k0_off1 c 1 + 1 * (j 1).val = _; rw [o1]; omega

/-- The second load and store fill the last two. -/
theorem fill2 (c : Dev nD) (f : (cc0_scratch0 : Ref sig .tc).ty.Contents (Elt F)) (ir : ∀ a, k0_off3 c a + S256x512.size a ≤ S2048x1024.size a)
    (is : ∀ a, ![512, 0] a + S256x512.size a ≤ S768x512.size a) (i : S768x512.Idx) (hi : 512 ≤ (i 0).val) :
    (sM.access (Rect.unit (s := S768x512) ![512, 0] S256x512.size is)).write (Elt F) f
      (k0_pay2 (xM.view.readAt (Elt F) (Rect.unit (s := S2048x1024) (k0_off3 c) S256x512.size ir).toLoadRect (X c))) Finset.univ i = scrF X c i := by
  have h1 : (i 1).val < 512 := (i 1).isLt
  have h0 : (i 0).val < 768 := (i 0).isLt
  obtain ⟨j, rfl⟩ := exists_emb (b := cc0_scratch0) (Rect.unit (s := S768x512) ![512, 0] S256x512.size is) i (by
    rw [Rect.mem_set_unit]; intro a; fin_cases a
    · show 512 ≤ (i 0).val ∧ (i 0).val < 512 + 256; omega
    · show 0 ≤ (i 1).val ∧ (i 1).val < 0 + 512; omega)
  refine (View.write_emb_of_mem (v := sM.access (Rect.unit (s := S768x512) ![512, 0] S256x512.size is)) f _ (Finset.mem_univ j)).trans ?_
  show k0_pay2 (xM.view.readAt (Elt F) (Rect.unit (s := S2048x1024) (k0_off3 c) S256x512.size ir).toLoadRect (X c)) j = _
  unfold k0_pay2
  rw [shapeCast_id, shapeCast_id]
  unfold scrF
  show X c ((Rect.unit (s := S2048x1024) (k0_off3 c) S256x512.size ir).emb j) = _
  congr 1
  have hj0 : (j 0).val < 256 := (j 0).isLt
  have hj1 : (j 1).val < 512 := (j 1).isLt
  have hx := hX_le c
  have e0 : (((Rect.unit (s := S768x512) ![512, 0] S256x512.size is).emb j) 0 : Nat) = 512 + (j 0).val := by show 512 + 1 * (j 0).val = _; omega
  have e1 : (((Rect.unit (s := S768x512) ![512, 0] S256x512.size is).emb j) 1 : Nat) = (j 1).val := by show 0 + 1 * (j 1).val = _; omega
  have hr := slot_room c
  have hs := slot_run2 c ⟨(j 0).val / 128, by omega⟩
  dsimp only at hs
  have hd : 6 + (512 + (j 0).val) / 128 = 10 + (j 0).val / 128 := by omega
  rw [e0, e1, hd, hs]
  have o0 : k0_off3 c 0 = 128 * (slotN (xd c) 10 % 16) := by rw [off3_at]; rfl
  have o1 : k0_off3 c 1 = 512 * (1 - hX c) := by rw [off3_at]; rfl
  apply eq_at2
  · show k0_off3 c 0 + 1 * (j 0).val = _; rw [o0]; omega
  · show k0_off3 c 1 + 1 * (j 1).val = _; rw [o1]; omega

/-- The third load and store finish the half of the result the device fills itself. -/
theorem fill3 (c : Dev nD) (f : (cc0_stg1_0 : Ref sig .tc).ty.Contents (Elt F)) (ir : ∀ a, k0_off10 c a + S2048x512.size a ≤ S2048x1024.size a)
    (is : ∀ a, k0_off11 c a + S2048x512.size a ≤ S4096x512.size a) (i : S4096x512.Idx) (hi : (i 0).val / 2048 = hX c) :
    (oM.access (Rect.unit (s := S4096x512) (k0_off11 c) S2048x512.size is)).write (Elt F) f
      (k0_pay3 (xM.view.readAt (Elt F) (Rect.unit (s := S2048x1024) (k0_off10 c) S2048x512.size ir).toLoadRect (X c))) Finset.univ i = outF X c i := by
  have h1 : (i 1).val < 512 := (i 1).isLt
  have o0 : k0_off10 c 0 = 0 := by rw [off10_at]; rfl
  have o1 : k0_off10 c 1 = 512 * hX c := by rw [off10_at]; rfl
  have p0 : k0_off11 c 0 = 2048 * hX c := by rw [off11_at]; rfl
  have p1 : k0_off11 c 1 = 0 := by rw [off11_at]; rfl
  obtain ⟨j, rfl⟩ := exists_emb (b := cc0_stg1_0) (Rect.unit (s := S4096x512) (k0_off11 c) S2048x512.size is) i (by
    rw [Rect.mem_set_unit]; intro a; fin_cases a
    · show k0_off11 c 0 ≤ (i 0).val ∧ (i 0).val < k0_off11 c 0 + 2048; omega
    · show k0_off11 c 1 ≤ (i 1).val ∧ (i 1).val < k0_off11 c 1 + 512; omega)
  refine (View.write_emb_of_mem (v := oM.access (Rect.unit (s := S4096x512) (k0_off11 c) S2048x512.size is)) f _ (Finset.mem_univ j)).trans ?_
  show k0_pay3 (xM.view.readAt (Elt F) (Rect.unit (s := S2048x1024) (k0_off10 c) S2048x512.size ir).toLoadRect (X c)) j = _
  unfold k0_pay3
  rw [shapeCast_id]
  unfold outF
  have hj0 : (j 0).val < 2048 := (j 0).isLt
  have hj1 : (j 1).val < 512 := (j 1).isLt
  have hx := hX_le c
  have e0 : (((Rect.unit (s := S4096x512) (k0_off11 c) S2048x512.size is).emb j) 0 : Nat) = 2048 * hX c + (j 0).val := by
    show k0_off11 c 0 + 1 * (j 0).val = _; omega
  have e1 : (((Rect.unit (s := S4096x512) (k0_off11 c) S2048x512.size is).emb j) 1 : Nat) = (j 1).val := by
    show k0_off11 c 1 + 1 * (j 1).val = _; omega
  rw [e0, e1, origin_own c _ (by omega)]
  show X c ((Rect.unit (s := S2048x1024) (k0_off10 c) S2048x512.size ir).emb j) = _
  congr 1
  apply eq_at2
  · show k0_off10 c 0 + 1 * (j 0).val = _; rw [o0]; omega
  · show k0_off10 c 1 + 1 * (j 1).val = _; rw [o1]; omega

end Cert.Proof

end
-- ==== Proof.Schedule.lean ====
module

public import proofs.«01_k».proof.Proof.Chunks

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The cells: a barrier and 32 DMA semaphores per device -/

abbrev barS : Sem sig := (SemArray.scalar (sig.barrier 0 rfl) : Sems sig S_).sem
/-- The kernel's DMA semaphore `k`; the first two of the launch are the staging ones. -/
abbrev dS (k : Fin 32) : DmaSem sig := ⟨k.val + 2, by have := k.isLt; show _ < 34; omega⟩

abbrev barCell (c : Dev nD) : GSem nD τ sig := ((c : Thread nD τ), .reg barS)
abbrev dCell (c : Dev nD) (k : Fin 32) : GSem nD τ sig := ((c : Thread nD τ), .dma (dS k))

abbrev osem (k : Fin 32) : SemLoc sig := .dma (dS k)
/-- Every cell of a device, the barrier first. -/
abbrev csem (j : Fin 33) : SemLoc sig := Fin.cases (.reg barS) (fun k => .dma (dS k)) j
abbrev kcell (cj : Dev nD × Fin 33) : GSem nD τ sig := ((cj.1 : Thread nD τ), csem cj.2)

/-! ## What the cells carry -/

variable (X : Blocks F)

/-- Chunk `n` of device `c`'s staged result at contents `f`. -/
def oPts (c : Dev nD) (n : Fin 32) (q : PosShare TreeShare) (f : (cc0_stg1_0 : Ref sig .tc).ty.Contents (Elt F)) : sProp 𝕄 :=
  ((c : Thread nD τ).loc cc0_stg1_0) ↦[ockS n]{q} f
/-- Chunk `n` of device `c`'s filled send buffer. -/
def sPts (c : Dev nD) (n : Fin 6) : sProp 𝕄 :=
  ((c : Thread nD τ).loc cc0_scratch0) ↦[sckS n]{fullShare} scrF X c
/-- Chunk `n` of device `c`'s staged result, at any contents. -/
def oAny (c : Dev nD) (n : Fin 32) : sProp 𝕄 := iprop(∃ f, oPts c n fullShare f)

instance oPts_storable (c : Dev nD) (n q f) : BI.Storable (upEmb : UEmb _ 𝕄) (oPts (F := F) c n q f) := by unfold oPts; infer_instance
instance sPts_storable (c : Dev nD) (n) : BI.Storable (upEmb : UEmb _ 𝕄) (sPts X c n) := by unfold sPts; infer_instance
instance oAny_storable (c : Dev nD) (n) : BI.Storable (upEmb : UEmb _ 𝕄) (oAny (F := F) c n) := by unfold oAny; infer_instance

/-- The share of its chunk a transfer on cell `k` holds: a chunk passed on in both directions at once is halved. -/
def shareK (k : Fin 32) : PosShare TreeShare :=
  if 12 ≤ k.val ∧ k.val < 16 then fullShare.left else if 22 ≤ k.val ∧ k.val < 26 then fullShare.right else fullShare

/-- What a finished transfer hands over on cell `k`: the chunk of the send buffer on the first six, else the chunk of the
    finished result. -/
def kPay (c : Dev nD) (k : Fin 32) : sProp 𝕄 :=
  if h : k.val < 6 then sPts X c ⟨k.val, h⟩ else oPts c (slotK c k) (shareK k) (outF X c)

instance kPay_storable (c : Dev nD) (k) : BI.Storable (upEmb : UEmb _ 𝕄) (kPay X c k) := by unfold kPay; split <;> infer_instance

/-- What the signal of the neighbour in direction `d` hands over: the places of its result the transfers to it write. -/
def barPay (c : Dev nD) (d : Fin 3) : sProp 𝕄 :=
  bigSep (Finset.univ.filter fun t : Fin 16 => tdir t = d) fun t => oAny (F := F) (peerD d c) (slotK (peerD d c) (recvk t))

instance barPay_storable (c : Dev nD) (d) : BI.Storable (upEmb : UEmb _ 𝕄) (barPay (F := F) c d) := by unfold barPay; infer_instance

abbrev IsBar (g : GSem nD τ sig) : Prop := g.1.2 = .tc ∧ g.2 = .reg barS
abbrev IsX (g : GSem nD τ sig) : Prop := g.1.2 = .tc ∧ ∃ k : Fin 32, g.2 = .dma (dS k)

def semPay (c : Dev nD) (d : Fin 3) : SemLoc sig → sProp 𝕄
  | .reg _ => barPay c d
  | .dma q => if h : 2 ≤ q.val then kPay X c ⟨q.val - 2, by have : q.val < 34 := q.isLt; omega⟩ else iprop(emp)

def semAmt : SemLoc sig → ℕ
  | .reg _ => 1
  | .dma _ => N

/-- One round: three units on a device's barrier, one from each neighbour, and one transfer on each DMA cell. -/
def Rd : Rounds.Schedule (GSem nD τ sig) (Fin 3) 𝕄 where
  duties g r := if r = 0 ∧ IsBar g then Finset.univ else if r = 0 ∧ IsX g then {0} else ∅
  unitless _ := False
  amount g _ _ := semAmt g.2
  payload g _ d := semPay X g.1.1 d g.2
  amount_pos g _ _ _ := by
    rcases g with ⟨_, s⟩
    cases s with
    | reg s => exact Nat.one_pos
    | dma s => exact N_pos

instance Rd_payload_storable (g : GSem nD τ sig) (r : ℕ) (d : Fin 3) :
    BI.Storable (upEmb : UEmb _ 𝕄) ((Rd X).payload g r d) := by
  show BI.Storable upEmb (semPay X g.1.1 d g.2)
  cases g.2 with
  | reg s => show BI.Storable upEmb (barPay g.1.1 d); infer_instance
  | dma q => unfold semPay; dsimp only; split <;> infer_instance

section Sched
variable (c : Dev nD)

theorem duties_bar : (Rd X).duties (barCell c) 0 = Finset.univ := by dsimp only [Rd]; exact if_pos ⟨rfl, rfl, rfl⟩
theorem duties_dma (k : Fin 32) : (Rd X).duties (dCell c k) 0 = {0} := by
  dsimp only [Rd]; rw [if_neg (fun h => by cases h.2.2)]
  exact if_pos ⟨rfl, rfl, k, rfl⟩
theorem duties_later (g : GSem nD τ sig) : ∀ r, 1 ≤ r → (Rd X).duties g r = ∅ :=
  fun r hr => by dsimp only [Rd]; rw [if_neg fun h => by omega, if_neg fun h => by omega]

theorem amount_bar (d : Fin 3) : (Rd X).amount (barCell c) 0 d = 1 := rfl
theorem amount_dma (k : Fin 32) (d : Fin 3) : (Rd X).amount (dCell c k) 0 d = N := rfl

theorem expect_bar : (Rd X).expect (barCell c) 0 = 3 := by
  unfold Schedule.expect Schedule.amountOf
  rw [duties_bar, Finset.sum_congr rfl fun d _ => amount_bar X c d, Finset.sum_const, Finset.card_univ, Fintype.card_fin, smul_eq_mul]
theorem expect_dma (k : Fin 32) : (Rd X).expect (dCell c k) 0 = N := by
  unfold Schedule.expect Schedule.amountOf; rw [duties_dma X c k, Finset.sum_singleton, amount_dma]

theorem payload_bar (d : Fin 3) : (Rd X).payload (barCell c) 0 d = barPay c d := rfl
theorem payload_dma (k : Fin 32) (d : Fin 3) : (Rd X).payload (dCell c k) 0 d = kPay X c k := by
  show semPay X c d (.dma (dS k)) = _
  show (if h : 2 ≤ k.val + 2 then kPay X c ⟨k.val + 2 - 2, by have := k.isLt; omega⟩ else iprop(emp)) = kPay X c k
  exact dif_pos (by omega)

theorem bigSep_fin3 (Φ : Fin 3 → sProp 𝕄) : bigSep Finset.univ Φ = iprop(Φ 0 ∗ Φ 1 ∗ Φ 2) := bigSep_univ_eq_bigSepL [0, 1, 2] (by decide) (by decide) Φ

theorem rest_bar : bigSep ((Rd X).duties (barCell c) 0 \ ∅) (fun d => (Rd X).payload (barCell c) 0 d)
    = iprop(barPay c 0 ∗ barPay c 1 ∗ barPay c 2) := by
  rw [Finset.sdiff_empty, duties_bar, bigSep_fin3]; rfl
theorem rest_dma (k : Fin 32) : bigSep ((Rd X).duties (dCell c k) 0 \ ∅) (fun d => (Rd X).payload (dCell c k) 0 d) = kPay X c k := by
  rw [Finset.sdiff_empty, duties_dma X c k, bigSep_singleton, payload_dma]

end Sched

/-! ## What each device owes; the levels -/

/-- What is owed for the last `j` of a device's sixteen transfers. -/
def OT (c : Dev nD) : ℕ → CellTallies nD τ sig Unit
  | 0 => 0
  | j + 1 => OT c j + tallyAt (dCell (peer ⟨15 - j, by omega⟩ c) (recvk ⟨15 - j, by omega⟩)) () N

/-- What is owed at the start: all the transfers, and a unit to each neighbour. -/
def O₁ (c : Dev nD) : CellTallies nD τ sig Unit := OT c 16 + tallyAt (barCell (zd c)) () 1
def O₂ (c : Dev nD) : CellTallies nD τ sig Unit := O₁ c + tallyAt (barCell (yd c)) () 1
def O₀ (c : Dev nD) : CellTallies nD τ sig Unit := O₂ c + tallyAt (barCell (xd c)) () 1

def L (g : GSem nD τ sig) : Finset Unit := if g.1.2 = .tc then {()} else ∅

/-- The level of DMA cell `k`: receiving from the first neighbour 2, from the others 3, the passed-on ones 4. -/
def lvk (k : ℕ) : ℕ :=
  if 6 ≤ k ∧ k < 12 then 2 else if (17 ≤ k ∧ k < 21) ∨ (27 ≤ k ∧ k < 31) then 3 else if k = 21 ∨ k = 31 then 4 else 0

def lvS : SemLoc sig → ℕ
  | .reg _ => 1
  | .dma q => if q.val < 2 then 0 else lvk (q.val - 2)
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl

theorem lv_dma (c : Dev nD) (k : Fin 32) (u : Unit) : lv (dCell c k) u = lvk k.val := by
  show (if k.val + 2 < 2 then 0 else lvk (k.val + 2 - 2)) = _
  rw [if_neg (by omega)]; rfl

theorem OT_pos {c : Dev nD} {g : GSem nD τ sig} {u : Unit} : ∀ {j : ℕ}, 0 < OT c j g u →
    ∃ t : Fin 16, 16 ≤ t.val + j ∧ g = dCell (peer t c) (recvk t)
  | 0, h => absurd h (Nat.lt_irrefl 0)
  | j + 1, h => by
    unfold OT at h
    rw [Pi.add_apply, Finsupp.add_apply, tallyAt_apply] at h
    by_cases h' : 0 < OT c j g u
    · obtain ⟨t, ht, e⟩ := OT_pos h'
      exact ⟨t, by omega, e⟩
    · refine ⟨⟨15 - j, by omega⟩, by show 16 ≤ 15 - j + (j + 1); omega, ?_⟩
      by_contra hn
      rw [if_neg (fun h2 => hn h2.1)] at h
      omega

theorem O₀_pos {c : Dev nD} {g : GSem nD τ sig} {u : Unit} (h : 0 < O₀ c g u) :
    (∃ t : Fin 16, g = dCell (peer t c) (recvk t)) ∨ ∃ d : Fin 3, g = barCell (peerD d c) := by
  unfold O₀ O₂ O₁ at h
  rw [Pi.add_apply, Finsupp.add_apply, Pi.add_apply, Finsupp.add_apply, Pi.add_apply, Finsupp.add_apply, tallyAt_apply, tallyAt_apply, tallyAt_apply] at h
  by_cases h' : 0 < OT c 16 g u
  · obtain ⟨t, -, e⟩ := OT_pos h'
    exact Or.inl ⟨t, e⟩
  · right
    by_contra hn
    rw [if_neg (fun h2 => hn ⟨2, h2.1⟩), if_neg (fun h2 => hn ⟨1, h2.1⟩), if_neg (fun h2 => hn ⟨0, h2.1⟩)] at h
    omega

theorem lvk_recv : ∀ t : Fin 16, 2 ≤ lvk (recvk t).val := by decide

/-- A device owing all waits on its staging cells. -/
theorem mayWait_stage (c : Dev nD) (q : DmaSem sig) (hq : q.val < 2) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨t, rfl⟩ | ⟨d, rfl⟩ <;> exact Finset.mem_singleton_self _)
      (fun p hp => by
        rw [Finset.mem_singleton.mp hp]
        show (if q.val < 2 then 0 else lvk (q.val - 2)) ≤ 0
        rw [if_pos hq])
      (fun g u hg => by
        rcases O₀_pos hg with ⟨t, rfl⟩ | ⟨d, rfl⟩
        · rw [lv_dma]; have := lvk_recv t; omega
        · exact Nat.one_pos)
  · rw [MayWait_zero]; iintro -; iempintro

/-- A device owing its transfers waits on its barrier. -/
theorem mayWait_bar (c : Dev nD) : (levAts L lv : sProp 𝕄) ⊢ MayWait (c : Thread nD τ) (.reg barS) () (OT c 16) :=
  MayOwe.of_cut (L := L) (lev := lv) 1 (fun p hp => by rw [Finset.mem_singleton.mp hp, L_tc]; exact Finset.mem_singleton_self _)
    (fun g u hg => by obtain ⟨t, -, rfl⟩ := OT_pos hg; exact Finset.mem_singleton_self _)
    (fun p hp => by rw [Finset.mem_singleton.mp hp]; exact le_refl 1)
    (fun g u hg => by
      obtain ⟨t, -, rfl⟩ := OT_pos hg
      rw [lv_dma]; have := lvk_recv t; omega)

/-- A device owing its last `j` transfers waits on a DMA cell below all of theirs. -/
theorem mayWait_dma (c : Dev nD) (k : Fin 32) (j : ℕ) (hk : ∀ t : Fin 16, 16 ≤ t.val + j → lvk k.val < lvk (recvk t).val) :
    (levAts L lv : sProp 𝕄) ⊢ MayWait (c : Thread nD τ) (.dma (dS k)) () (OT c j) :=
  MayOwe.of_cut (L := L) (lev := lv) (lvk k.val) (fun p hp => by rw [Finset.mem_singleton.mp hp, L_tc]; exact Finset.mem_singleton_self _)
    (fun g u hg => by obtain ⟨t, -, rfl⟩ := OT_pos hg; exact Finset.mem_singleton_self _)
    (fun p hp => by rw [Finset.mem_singleton.mp hp]; exact le_of_eq (lv_dma c k ()))
    (fun g u hg => by
      obtain ⟨t, ht, rfl⟩ := OT_pos hg
      rw [lv_dma]; exact hk t ht)

/-! ## What a device holds while it runs -/

/-- What every device knows of every cell: its invariant, and that its round is open. -/
def records (K : Dev nD × Fin 33 → ℕ) : sProp 𝕄 :=
  iprop((bigSep Finset.univ fun ck : Dev nD × Fin 33 => cellInv ER (Rd X) (K ck) (kcell ck))
    ∗ bigSep Finset.univ fun ck : Dev nD × Fin 33 => reached ER (kcell ck) 0)

instance records_persistent (K : Dev nD × Fin 33 → ℕ) : BI.Persistent (records X K) := by unfold records; infer_instance

theorem inv_one (K : Dev nD × Fin 33 → ℕ) (ck : Dev nD × Fin 33) :
    (bigSep Finset.univ fun ck : Dev nD × Fin 33 => (cellInv ER (Rd X) (K ck) (kcell ck) : sProp 𝕄)) ⊢ cellInv ER (Rd X) (K ck) (kcell ck) :=
  bigSep_elim (Finset.mem_univ ck)
theorem reached_one (ck : Dev nD × Fin 33) :
    (bigSep Finset.univ fun ck : Dev nD × Fin 33 => (reached ER (kcell ck) 0 : sProp 𝕄)) ⊢ reached ER (kcell ck) 0 :=
  bigSep_elim (Finset.mem_univ ck)

theorem inv_at (K : Dev nD × Fin 33 → ℕ) (ck : Dev nD × Fin 33) : records X K ⊢ (cellInv ER (Rd X) (K ck) (kcell ck) : sProp 𝕄) := by
  unfold records
  iintro ⟨H, -⟩
  iapply (inv_one X K ck) $$ H
theorem reached_at (K : Dev nD × Fin 33 → ℕ) (ck : Dev nD × Fin 33) : records X K ⊢ (reached ER (kcell ck) 0 : sProp 𝕄) := by
  unfold records
  iintro ⟨-, H⟩
  iapply (reached_one (F := F) ck) $$ H

/-- A DMA cell waiting for its transfer. -/
def Arm (c : Dev nD) (k : Fin 32) : sProp 𝕄 := iprop(atPos ER (dCell c k) 0 ∅ 0 ∗ cred (tallyAt (dCell c k) () N))
/-- A DMA cell whose transfer has been waited for. -/
def Done (c : Dev nD) (k : Fin 32) : sProp 𝕄 := atPos ER (dCell c k) 1 ∅ 0
/-- What starting transfer `t` takes besides the data. -/
def Tx (c : Dev nD) (t : Fin 16) : sProp 𝕄 :=
  iprop(dutyTok ER (dCell (peer t c) (recvk t)) 0 0 ∗ dutyTok ER (dCell c (sendk t)) 0 0 ∗ atPos ER (dCell c (sendk t)) 0 ∅ 0)
/-- The place transfer `t` writes. -/
def Dst (c : Dev nD) (t : Fin 16) : sProp 𝕄 := oAny (F := F) (peer t c) (slotK (peer t c) (recvk t))
/-- What is still owed, whatever was waited for. -/
def ow (c : Dev nD) (O : CellTallies nD τ sig Unit) : sProp 𝕄 := iprop(∃ W, owes (c : Thread nD τ) O W)

end Cert.Proof

end
-- ==== Proof.Steps.lean ====
module

public import proofs.«01_k».proof.Proof.Schedule

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

variable (X : Blocks F) (K : Dev nD × Fin 33 → ℕ)

abbrev wpc (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## The barrier -/

/-- A signal to the neighbour in direction `d`. -/
theorem wp_sig (c n : Dev nD) (d : Fin 3) (hn : n = peerD d c) {sem : Sem sig} (hs : sem = barS) {k' : ℕ} (hk : 1 = k')
    (O₁ O : CellTallies nD τ sig Unit) (hO : O₁ = O + tallyAt (barCell (peerD d c)) () 1)
    {α : Type} {Q : α → sProp 𝕄} {k : PUnit → Prog (TpuEff nD τ sig (Elt F) Λ₀ .tc) α} :
    iprop(records X K ∗ ow c O₁ ∗ dutyTok ER (barCell (peerD d c)) 0 d ∗ barPay (peerD d c) d)
      ⊢ iprop((ow c O -∗ wpc c (k ⟨⟩) Q) -∗ wpc c (.op (.semSignal (Dev.tc n : Thread nD τ) sem k') k) Q) := by
  subst hn hs hk hO
  unfold ow
  iintro ⟨#HR, ⟨%W, HO⟩, Ht, Hp⟩ Hk
  iapply (Rounds.wp_signal 𝒱₀ ER (Rd X) (c : Thread nD τ) none (dst := (peerD d c : Thread nD τ)) (κ := K (peerD d c, 0))
      (d := d) (by rw [duties_bar]; exact Finset.mem_univ _) (amount_bar X (peerD d c) d) () O rfl)
    $$ [HO Ht Hp]
  · isplitr; · iapply (inv_at X K (peerD d c, 0)); iexact HR
    isplitl [HO]; · iexact HO
    isplitl [Ht]; · iexact Ht
    isplitl [Hp]; · rw [payload_bar]; iexact Hp
    iapply (reached_at X K (peerD d c, 0)); iexact HR
  iintro HO
  iapply Hk
  iexists W; iexact HO

/-- The wait for the three units. -/
theorem wp_bar (c : Dev nD) {sem : Sem sig} (hs : sem = barS) {k' : ℕ} (hk : 3 = k')
    {α : Type} {Q : α → sProp 𝕄} {k : PUnit → Prog (TpuEff nD τ sig (Elt F) Λ₀ .tc) α} :
    iprop(records X K ∗ levAts L lv ∗ ow c (OT c 16) ∗ atPos ER (barCell c) 0 ∅ 0 ∗ cred (tallyAt (barCell c) () 3))
      ⊢ iprop(((ow c (OT c 16) ∗ atPos ER (barCell c) 1 ∅ 0 ∗ barPay c 0 ∗ barPay c 1 ∗ barPay c 2) -∗ wpc c (k ⟨⟩) Q)
          -∗ wpc c (.op (.semWait sem k') k) Q) := by
  subst hs hk
  unfold ow
  iintro ⟨#HR, #Hlev, ⟨%W, HO⟩, Hat, Hc⟩ Hk
  iapply (Rounds.wp_wait_rest_token 𝒱₀ ER (Rd X) (c : Thread nD τ) none (κ := K (c, 0))
      (wpE_semWait_eq 𝒱₀ (c : Thread nD τ) none Set.univ) (Set.mem_univ _) () (O := OT c 16) (W := W) (R := 0) (m := 0) (T := ∅)
      (by rw [expect_bar])) $$ [Hc HO Hat]
  · isplitr; · iapply (inv_at X K (c, 0)); iexact HR
    isplitl [Hc]; · iexact Hc
    isplitl [HO]; · iexact HO
    isplitr; · iapply (mayWait_bar c); iexact Hlev
    iexact Hat
  iintro ⟨HO, Hat, -, Hpay⟩
  ihave Hp := (Entails.of_eq (rest_bar X c)) $$ Hpay
  iapply Hk
  isplitl [HO]; · iexists (insert (SemLoc.reg barS, ()) W); iexact HO
  isplitl [Hat]; · iexact Hat
  iexact Hp

/-! ## The transfers -/

theorem tab_x : ∀ t : Fin 16, t.val < 6 → tdir t = 0 ∧ (sendk t).val = t.val := by decide
theorem tab_recv : ∀ t : Fin 16, ¬ (recvk t).val < 6 ∧ shareK (recvk t) = fullShare := by
  intro t
  have h : ¬ (recvk t).val < 6 ∧ ¬ (12 ≤ (recvk t).val ∧ (recvk t).val < 16) ∧ ¬ (22 ≤ (recvk t).val ∧ (recvk t).val < 26) := by revert t; decide
  refine ⟨h.1, ?_⟩
  unfold shareK; rw [if_neg h.2.1, if_neg h.2.2]
theorem tab_send : ∀ t : Fin 16, 6 ≤ t.val → ¬ (sendk t).val < 6 := by decide

theorem kPay_send_x (c : Dev nD) (t : Fin 16) (ht : t.val < 6) (i : Fin 6) (hi : i.val = t.val) : kPay X c (sendk t) = sPts X c i := by
  have h := (tab_x t ht).2
  unfold kPay
  rw [dif_pos (by omega)]
  congr 1
  exact Fin.ext (by show (sendk t).val = i.val; omega)

theorem kPay_out (c : Dev nD) (k : Fin 32) (hk : ¬ k.val < 6) : kPay X c k = oPts c (slotK c k) (shareK k) (outF X c) := by
  unfold kPay; rw [dif_neg hk]

theorem kPay_recv (c : Dev nD) (t : Fin 16) : kPay X c (recvk t) = oPts c (slotK c (recvk t)) fullShare (outF X c) := by
  rw [kPay_out X c _ (tab_recv t).1, (tab_recv t).2]

/-- The start of transfer `t`, from a source at contents that end as the receiver's finished chunk. -/
theorem wp_send_gen (c n : Dev nD) (t : Fin 16) (j : ℕ) (hj : t.val + j = 15) (hn : n = peer t c)
    {src : Memref sig .tc .vmem S128x512 .bf16} {dst : Memref sig (Dev.tc n : Thread nD τ).2.kind .vmem S128x512 .bf16}
    (hdE : dst = ock (slotK (peer t c) (recvk t))) {sS sR : DmaSem sig} (hS : sS = dS (sendk t)) (hR : sR = dS (recvk t))
    {hsc : dst.view.ref.isScScratch = false} {hsrc : src.view.WordExact} {hdst : dst.view.WordExact}
    {hsem : DmaTarget.Typed .vmem (.dma sR) (.remote (Dev.tc n : Thread nD τ) dst (.dma sS) hsc)}
    (q : PosShare TreeShare) (fs : Buf (Elt F) (src.view.loc (c : Thread nD τ)))
    (hpay : (src.view.loc (c : Thread nD τ) ↦[src.view.set]{q} fs) ⊢ kPay X c (sendk t))
    (hland : ∀ fd : (cc0_stg1_0 : Ref sig .tc).ty.Contents (Elt F), ∀ e ∈ ockS (slotK (peer t c) (recvk t)),
      (ock (slotK (peer t c) (recvk t))).view.write (Elt F) fd (src.view.read (Elt F) fs) Finset.univ e = outF X (peer t c) e)
    {α : Type} {Q : α → sProp 𝕄} {k : PUnit → Prog (TpuEff nD τ sig (Elt F) Λ₀ .tc) α} :
    iprop(records X K ∗ (src.view.loc (c : Thread nD τ) ↦[src.view.set]{q} fs) ∗ Dst c t ∗ Tx c t ∗ ow c (OT c (j + 1)))
      ⊢ iprop(((Arm c (sendk t) ∗ ow c (OT c j)) -∗ wpc c (k ⟨⟩) Q)
          -∗ wpc c (.op (.enqueueDma src (.remote (Dev.tc n : Thread nD τ) dst (.dma sS) hsc) (.dma sR) hsrc hdst hsem) k) Q) := by
  subst hn hS hR hdE
  unfold Dst Tx oAny ow oPts
  iintro ⟨#HR, Hs, ⟨%fd, Hd⟩, ⟨Ht1, Ht2, Hat⟩, ⟨%W, HO⟩⟩ Hk
  iapply (Rounds.wp_send_pointsTo 𝒱₀ ER (Rd X) (c : Thread nD τ) none (κ₁ := K (c, (sendk t).succ)) (κ₂ := K (peer t c, (recvk t).succ))
    (c' := (peer t c : Thread nD τ)) (dst := ock (slotK (peer t c) (recvk t)))
    (r₁ := 0) (r₂ := 0) (d₁ := 0) (d₂ := 0) (fd := fd)
    (by rw [duties_dma]; exact Finset.mem_singleton_self _) (by rw [duties_dma]; exact Finset.mem_singleton_self _)
    () () N rfl (amount_dma X c (sendk t) 0) (amount_dma X (peer t c) (recvk t) 0) (OT c j) (O₀ := OT c (j + 1)) (by
      have e : (⟨15 - j, by omega⟩ : Fin 16) = t := Fin.ext (by show 15 - j = t.val; omega)
      rw [OT, e]) (W := W)
    (by rw [payload_dma]; exact hpay)
    (by
      rw [payload_dma, kPay_recv]; unfold oPts
      exact Entails.of_eq (pointsTo_congr (hland fd)))) $$ [Hs Hd HO Ht1 Ht2]
  · isplitr; · iapply (inv_at X K (c, (sendk t).succ)); iexact HR
    isplitr; · iapply (inv_at X K (peer t c, (recvk t).succ)); iexact HR
    isplitl [Hs]; · iexact Hs
    isplitl [Hd]; · iexact Hd
    isplitl [HO]; · iexact HO
    isplitl [Ht2]; · iexact Ht2
    isplitr; · iapply (reached_at X K (c, (sendk t).succ)); iexact HR
    isplitl [Ht1]; · iexact Ht1
    iapply (reached_at X K (peer t c, (recvk t).succ)); iexact HR
  iintro ⟨Hc, HO⟩
  iapply Hk
  unfold Arm
  isplitl [Hat Hc]
  · isplitl [Hat] <;> iassumption
  iexists W; iexact HO

/-- The start of a transfer to the first neighbour, out of the send buffer. -/
theorem wp_send_x (c n : Dev nD) (t : Fin 16) (ht : t.val < 6) (i : Fin 6) (hi : i.val = t.val) (j : ℕ) (hj : t.val + j = 15) (hn : n = xd c)
    {src : Memref sig .tc .vmem S128x512 .bf16} (hsE : src = sck i)
    {dst : Memref sig (Dev.tc n : Thread nD τ).2.kind .vmem S128x512 .bf16}
    (hdE : dst = ock (slotK (xd c) (recvk t))) {sS sR : DmaSem sig} (hS : sS = dS (sendk t)) (hR : sR = dS (recvk t))
    {hsc : dst.view.ref.isScScratch = false} {hsrc : src.view.WordExact} {hdst : dst.view.WordExact}
    {hsem : DmaTarget.Typed .vmem (.dma sR) (.remote (Dev.tc n : Thread nD τ) dst (.dma sS) hsc)}
    {α : Type} {Q : α → sProp 𝕄} {k : PUnit → Prog (TpuEff nD τ sig (Elt F) Λ₀ .tc) α} :
    iprop(records X K ∗ sPts X c i ∗ Dst c t ∗ Tx c t ∗ ow c (OT c (j + 1)))
      ⊢ iprop(((Arm c (sendk t) ∗ ow c (OT c j)) -∗ wpc c (k ⟨⟩) Q)
          -∗ wpc c (.op (.enqueueDma src (.remote (Dev.tc n : Thread nD τ) dst (.dma sS) hsc) (.dma sR) hsrc hdst hsem) k) Q) := by
  subst hsE
  have hp : peer t c = xd c := by unfold peer; rw [(tab_x t ht).1]; rfl
  have h1 : ((sck i).view.loc (c : Thread nD τ) ↦[(sck i).view.set]{fullShare} scrF X c) ⊢ kPay X c (sendk t) := by
    rw [kPay_send_x X c t ht i hi]; unfold sPts; exact BI.Entails.refl _
  have h2 : ∀ fd : (cc0_stg1_0 : Ref sig .tc).ty.Contents (Elt F), ∀ e ∈ ockS (slotK (peer t c) (recvk t)),
      (ock (slotK (peer t c) (recvk t))).view.write (Elt F) fd ((sck i).view.read (Elt F) (scrF X c)) Finset.univ e = outF X (peer t c) e :=
    fun fd e he => by rw [hp] at he ⊢; exact land_x X c t ht i hi _ rfl fd e he
  unfold sPts
  have h3 := @wp_send_gen F _ X K c n t j hj (hn.trans hp.symm) (sck i) dst (by rw [hp]; exact hdE) sS sR hS hR hsc hsrc hdst hsem fullShare (scrF X c) h1 h2 α Q k
  exact h3

/-- The passing on of a finished chunk. -/
theorem wp_send_p (c n : Dev nD) (t : Fin 16) (ht : 6 ≤ t.val) (j : ℕ) (hj : t.val + j = 15) (hn : n = peer t c)
    {src : Memref sig .tc .vmem S128x512 .bf16} (hsE : src = ock (slotK c (sendk t)))
    {dst : Memref sig (Dev.tc n : Thread nD τ).2.kind .vmem S128x512 .bf16}
    (hdE : dst = ock (slotK c (sendk t))) {sS sR : DmaSem sig} (hS : sS = dS (sendk t)) (hR : sR = dS (recvk t))
    {hsc : dst.view.ref.isScScratch = false} {hsrc : src.view.WordExact} {hdst : dst.view.WordExact}
    {hsem : DmaTarget.Typed .vmem (.dma sR) (.remote (Dev.tc n : Thread nD τ) dst (.dma sS) hsc)}
    {α : Type} {Q : α → sProp 𝕄} {k : PUnit → Prog (TpuEff nD τ sig (Elt F) Λ₀ .tc) α} :
    iprop(records X K ∗ kPay X c (sendk t) ∗ Dst c t ∗ Tx c t ∗ ow c (OT c (j + 1)))
      ⊢ iprop(((Arm c (sendk t) ∗ ow c (OT c j)) -∗ wpc c (k ⟨⟩) Q)
          -∗ wpc c (.op (.enqueueDma src (.remote (Dev.tc n : Thread nD τ) dst (.dma sS) hsc) (.dma sR) hsrc hdst hsem) k) Q) := by
  subst hsE
  have hsl := slot_pass t ht c
  have hk := kPay_out X c (sendk t) (tab_send t ht)
  have h1 : ((ock (slotK c (sendk t))).view.loc (c : Thread nD τ) ↦[(ock (slotK c (sendk t))).view.set]{shareK (sendk t)} outF X c) ⊢ kPay X c (sendk t) := by
    rw [hk]; unfold oPts; exact BI.Entails.refl _
  have h2 : ∀ fd : (cc0_stg1_0 : Ref sig .tc).ty.Contents (Elt F), ∀ e ∈ ockS (slotK (peer t c) (recvk t)),
      (ock (slotK (peer t c) (recvk t))).view.write (Elt F) fd ((ock (slotK c (sendk t))).view.read (Elt F) (outF X c)) Finset.univ e = outF X (peer t c) e :=
    fun fd e he => by rw [hsl] at he ⊢; exact land_pass X c t ht _ rfl fd e he
  rw [hk]
  unfold oPts
  have h3 := @wp_send_gen F _ X K c n t j hj hn (ock (slotK c (sendk t))) dst (by rw [hsl]; exact hdE) sS sR hS hR hsc hsrc hdst hsem (shareK (sendk t)) (outF X c) h1 h2 α Q k
  exact h3

/-- The wait for the transfer on DMA cell `k`, owing the last `j` transfers. -/
theorem wp_dwait (c : Dev nD) (k₀ : Fin 32) (j : ℕ) (hlv : ∀ t : Fin 16, 16 ≤ t.val + j → lvk k₀.val < lvk (recvk t).val)
    {sem : DmaSem sig} (hs : sem = dS k₀) {src dst : Memref sig .tc .vmem S128x512 .bf16}
    {hsrc : src.view.WordExact} {hdst : dst.view.WordExact}
    {α : Type} {Q : α → sProp 𝕄} {k : PUnit → Prog (TpuEff nD τ sig (Elt F) Λ₀ .tc) α} :
    iprop(records X K ∗ levAts L lv ∗ Arm c k₀ ∗ ow c (OT c j))
      ⊢ iprop(((kPay X c k₀ ∗ Done c k₀ ∗ ow c (OT c j)) -∗ wpc c (k ⟨⟩) Q)
          -∗ wpc c (.op (.waitDma2 sem src dst hsrc hdst) k) Q) := by
  subst hs
  have hN : dst.view.dmaCredit = N := rfl
  unfold Arm Done ow
  iintro ⟨#HR, #Hlev, ⟨Hat, Hc⟩, ⟨%W, HO⟩⟩ Hk
  iapply (Rounds.wp_wait_rest_token 𝒱₀ ER (Rd X) (c : Thread nD τ) none (κ := K (c, k₀.succ))
      (wpE_waitDma2_eq 𝒱₀ (c : Thread nD τ) none Set.univ) (Set.mem_univ _) () (O := OT c j) (W := W) (R := 0) (m := 0) (T := ∅)
      (by rw [Nat.zero_add, hN]; exact (expect_dma X c k₀).symm)) $$ [Hc HO Hat]
  · isplitr; · iapply (inv_at X K (c, k₀.succ)); iexact HR
    isplitl [Hc]; · rw [hN]; iexact Hc
    isplitl [HO]; · iexact HO
    isplitr; · iapply (mayWait_dma c k₀ j hlv); iexact Hlev
    iexact Hat
  iintro ⟨HO, Hat, -, Hpay⟩
  ihave Hp := (Entails.of_eq (rest_dma X c k₀)) $$ Hpay
  iapply Hk
  isplitl [Hp]; · iexact Hp
  isplitl [Hat]; · iexact Hat
  iexists (insert (SemLoc.dma (dS k₀), ()) W); iexact HO

/-- The cell's counter back at zero once its transfer was waited for. -/
theorem close_dma (c : Dev nD) (k : Fin 32) : iprop(records X K ∗ Done c k) ⊢ (|={Set.univ}=> semVal (dCell c k) 0 : sProp 𝕄) := by
  unfold Done
  iintro ⟨#HR, Hat⟩
  imod (Rounds.cell_close ER (Rd X) (Set.mem_univ (K (c, k.succ))) (fun h => h) (R := 0 + 1) (duties_later X (dCell c k))) $$ [Hat] with Hz
  · isplitr; · iapply (inv_at X K (c, k.succ)); iexact HR
    iexact Hat
  imodintro; iexact Hz

theorem close_bar (c : Dev nD) : iprop(records X K ∗ atPos ER (barCell c) 1 ∅ 0) ⊢ (|={Set.univ}=> semVal (barCell c) 0 : sProp 𝕄) := by
  iintro ⟨#HR, Hat⟩
  imod (Rounds.cell_close ER (Rd X) (Set.mem_univ (K (c, 0))) (fun h => h) (R := 0 + 1) (duties_later X (barCell c))) $$ [Hat] with Hz
  · isplitr; · iapply (inv_at X K (c, 0)); iexact HR
    iexact Hat
  imodintro; iexact Hz

end Cert.Proof

end
-- ==== Proof.Split.lean ====
module

public import proofs.«01_k».proof.Proof.Steps

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Blocks F)

/-! ## The send buffer in six chunks -/

/-- The rows of the send buffer past the first four chunks. -/
def sHi : Finset S768x512.Idx := Finset.univ.filter fun i => 512 ≤ (i 0).val

/-- Those rows of device `c`'s send buffer, at contents `f`. -/
def scrHi (c : Dev nD) (f : (cc0_scratch0 : Ref sig .tc).ty.Contents (Elt F)) : sProp 𝕄 :=
  ((c : Thread nD τ).loc cc0_scratch0) ↦[sHi]{fullShare} f
/-- The whole send buffer of device `c`, at contents `f`. -/
def scrAll (c : Dev nD) (f : (cc0_scratch0 : Ref sig .tc).ty.Contents (Elt F)) : sProp 𝕄 :=
  ((c : Thread nD τ).loc cc0_scratch0) ↦{fullShare} f

theorem s_lt (i : S768x512.Idx) : (i 0).val < 768 := (i 0).isLt
theorem o_lt (i : S4096x512.Idx) : (i 0).val < 4096 := (i 0).isLt

theorem six_low : ∀ n : Fin 6, n.val < 4 ↔ n ∈ ({0, 1, 2, 3} : Finset (Fin 6)) := by decide
theorem six_high : ∀ n : Fin 6, 4 ≤ n.val ↔ n ∈ ({4, 5} : Finset (Fin 6)) := by decide

theorem s_low : (Finset.univ : Finset S768x512.Idx) = (({0, 1, 2, 3} : Finset (Fin 6)).biUnion sckS) ∪ sHi := by
  ext i
  have h := s_lt i
  simp only [Finset.mem_univ, true_iff, Finset.mem_union, sHi, Finset.mem_filter, true_and, Finset.mem_biUnion]
  by_cases h5 : 512 ≤ (i 0).val
  · exact Or.inr h5
  · left
    exact ⟨⟨(i 0).val / 128, by omega⟩, (six_low _).mp (by show (i 0).val / 128 < 4; omega), (mem_sck _ _).mpr rfl⟩

theorem s_high : sHi = (({4, 5} : Finset (Fin 6)).biUnion sckS) := by
  ext i
  have h := s_lt i
  simp only [sHi, Finset.mem_filter, Finset.mem_univ, true_and, Finset.mem_biUnion]
  constructor
  · intro h5
    exact ⟨⟨(i 0).val / 128, by omega⟩, (six_high _).mp (by show 4 ≤ (i 0).val / 128; omega), (mem_sck _ _).mpr rfl⟩
  · rintro ⟨n, hn, hi⟩
    have h1 := (mem_sck n i).mp hi
    have h2 := (six_high n).mpr hn
    omega

theorem mem_sHi (i : S768x512.Idx) : i ∈ sHi ↔ 512 ≤ (i 0).val := by unfold sHi; rw [Finset.mem_filter]; exact and_iff_right (Finset.mem_univ i)

theorem s_disj (S : Finset (Fin 6)) : ∀ t ∈ S, ∀ t' ∈ S, t ≠ t' → Disjoint (sckS t) (sckS t') := fun _ _ _ _ h => sck_disj h

theorem s_low_high : Disjoint (({0, 1, 2, 3} : Finset (Fin 6)).biUnion sckS) sHi := by
  rw [s_high, Finset.disjoint_biUnion_left]
  intro a ha
  rw [Finset.disjoint_biUnion_right]
  intro b hb
  refine sck_disj ?_
  rintro rfl
  revert ha hb; revert a; decide

/-- A send buffer whose first 512 rows are filled, in four chunks and the rest. -/
theorem scr_split1 (c : Dev nD) (g : (cc0_scratch0 : Ref sig .tc).ty.Contents (Elt F)) (hg : ∀ i : S768x512.Idx, (i 0).val < 512 → g i = scrF X c i) :
    scrAll c g ⊢ iprop((sPts X c 0 ∗ sPts X c 1 ∗ sPts X c 2 ∗ sPts X c 3) ∗ scrHi c g) := by
  unfold scrAll scrHi
  have e : (((c : Thread nD τ).loc cc0_scratch0) ↦{fullShare} g : sProp 𝕄)
      = (((c : Thread nD τ).loc cc0_scratch0) ↦[(({0, 1, 2, 3} : Finset (Fin 6)).biUnion sckS) ∪ sHi]{fullShare} g) := by rw [← s_low]
  rw [e]
  refine (pointsTo_union s_low_high).1.trans (sep_mono_left ?_)
  refine (Entails.of_eq (pointsTo_congr (g := scrF X c) fun i hi => hg i ?_)).trans ?_
  · obtain ⟨n, hn, hi⟩ := Finset.mem_biUnion.mp hi
    have h1 := (mem_sck n i).mp hi
    have := (six_low n).mpr hn
    omega
  · refine (Entails.of_eq (pointsTo_biUnion _ _ (s_disj _))).trans ?_
    rw [bigSep_eq_bigSepL_of_eq [0, 1, 2, 3] (by decide) (by decide)]
    exact BI.Entails.refl _

/-- The rest, once filled, in two chunks. -/
theorem scr_split2 (c : Dev nD) (g : (cc0_scratch0 : Ref sig .tc).ty.Contents (Elt F)) (hg : ∀ i : S768x512.Idx, 512 ≤ (i 0).val → g i = scrF X c i) :
    scrHi c g ⊢ iprop(sPts X c 4 ∗ sPts X c 5) := by
  unfold scrHi
  refine (Entails.of_eq (pointsTo_congr (g := scrF X c) fun i hi => hg i ((mem_sHi i).mp hi))).trans ?_
  rw [s_high]
  refine (Entails.of_eq (pointsTo_biUnion _ _ (s_disj _))).trans ?_
  rw [bigSep_eq_bigSepL_of_eq [4, 5] (by decide) (by decide)]
  exact BI.Entails.refl _

/-- The six filled chunks are the filled buffer. -/
theorem scr_join (c : Dev nD) :
    iprop(sPts X c 0 ∗ sPts X c 1 ∗ sPts X c 2 ∗ sPts X c 3 ∗ sPts X c 4 ∗ sPts X c 5) ⊢ scrAll c (scrF X c) := by
  have e : (Finset.univ : Finset S768x512.Idx) = (Finset.univ : Finset (Fin 6)).biUnion sckS := by
    ext i
    have h := s_lt i
    simp only [Finset.mem_univ, true_iff, Finset.mem_biUnion, true_and]
    exact ⟨⟨(i 0).val / 128, by omega⟩, (mem_sck _ _).mpr rfl⟩
  have e2 : (scrAll c (scrF X c) : sProp 𝕄) = bigSep Finset.univ fun n => sPts X c n := by
    unfold scrAll sPts
    rw [← pointsTo_biUnion _ _ (s_disj _), ← e]
  rw [e2, bigSep_univ_eq_bigSepL [0, 1, 2, 3, 4, 5] (by decide) (by decide)]
  exact BI.Entails.refl _

/-! ## The result: the own half of the rows, and sixteen chunks that arrive -/

/-- The rows a device fills itself. -/
def oHalf (c : Dev nD) : Finset S4096x512.Idx := Finset.univ.filter fun i => (i 0).val / 2048 = hX c

/-- Those rows of device `c`'s result, at contents `f`. -/
def outHalf (c : Dev nD) (f : (cc0_stg1_0 : Ref sig .tc).ty.Contents (Elt F)) : sProp 𝕄 :=
  ((c : Thread nD τ).loc cc0_stg1_0) ↦[oHalf c]{fullShare} f
/-- The whole result of device `c`, at contents `f`. -/
def outAll (c : Dev nD) (f : (cc0_stg1_0 : Ref sig .tc).ty.Contents (Elt F)) : sProp 𝕄 :=
  ((c : Thread nD τ).loc cc0_stg1_0) ↦{fullShare} f

/-- The chunk transfer `t` of a neighbour writes here. -/
def rslot (c : Dev nD) (t : Fin 16) : Fin 32 := slotK c (recvk t)

theorem rslot_inj : ∀ (c : Dev nD) (t t' : Fin 16), rslot c t = rslot c t' → t = t' := by decide +kernel
theorem rslot_half : ∀ (c : Dev nD) (t : Fin 16), ¬ (rslot c t).val / 16 = hX c := by decide +kernel
theorem rslot_onto : ∀ (c : Dev nD) (n : Fin 32), ¬ n.val / 16 = hX c → ∃ t, rslot c t = n := by decide +kernel

theorem o_disj (c : Dev nD) (S : Finset (Fin 16)) : ∀ t ∈ S, ∀ t' ∈ S, t ≠ t' → Disjoint (ockS (rslot c t)) (ockS (rslot c t')) :=
  fun _ _ _ _ h => ock_disj fun e => h (rslot_inj c _ _ e)

theorem o_cover (c : Dev nD) : (Finset.univ : Finset S4096x512.Idx) = oHalf c ∪ (Finset.univ : Finset (Fin 16)).biUnion fun t => ockS (rslot c t) := by
  ext i
  have h := o_lt i
  simp only [Finset.mem_univ, true_iff, Finset.mem_union, oHalf, Finset.mem_filter, true_and, Finset.mem_biUnion]
  by_cases h5 : (i 0).val / 2048 = hX c
  · exact Or.inl h5
  · right
    obtain ⟨t, ht⟩ := rslot_onto c ⟨(i 0).val / 128, by omega⟩ (by show ¬ (i 0).val / 128 / 16 = hX c; rw [Nat.div_div_eq_div_mul]; exact h5)
    exact ⟨t, (mem_ock _ _).mpr (by rw [ht])⟩

theorem o_half_disj (c : Dev nD) : Disjoint (oHalf c) ((Finset.univ : Finset (Fin 16)).biUnion fun t => ockS (rslot c t)) := by
  rw [Finset.disjoint_biUnion_right]
  intro t _
  refine Finset.disjoint_left.mpr fun i hi hi' => rslot_half c t ?_
  have h1 := (mem_ock _ _).mp hi'
  have h2 := (Finset.mem_filter.mp hi).2
  rw [← h1, Nat.div_div_eq_div_mul]; exact h2

/-- The result in its parts, at one contents. -/
theorem out_parts (c : Dev nD) (f : (cc0_stg1_0 : Ref sig .tc).ty.Contents (Elt F)) :
    (outAll c f : sProp 𝕄) ⊣⊢ iprop(outHalf c f ∗ bigSep Finset.univ fun t : Fin 16 => oPts c (rslot c t) fullShare f) := by
  unfold outAll outHalf oPts
  rw [← pointsTo_biUnion _ _ (o_disj c _)]
  have e : (((c : Thread nD τ).loc cc0_stg1_0) ↦{fullShare} f : sProp 𝕄)
      = (((c : Thread nD τ).loc cc0_stg1_0) ↦[oHalf c ∪ (Finset.univ : Finset (Fin 16)).biUnion fun t => ockS (rslot c t)]{fullShare} f) := by
    rw [← o_cover]
  rw [e]
  exact pointsTo_union (o_half_disj c)

theorem oAny_intro (c : Dev nD) (n : Fin 32) (f : (cc0_stg1_0 : Ref sig .tc).ty.Contents (Elt F)) : (oPts c n fullShare f : sProp 𝕄) ⊢ oAny c n := by
  unfold oAny
  iintro H; iexists f; iexact H

/-! The sixteen transfers one by one, and by direction. -/
theorem bigSep_fin16 (Φ : Fin 16 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  bigSep_univ_eq_bigSepL [0, 1, 2, 3, 4, 5, 6, 7, 8, 9, 10, 11, 12, 13, 14, 15] (by decide) (by decide) Φ
theorem bigSep_dir0 (Φ : Fin 16 → sProp 𝕄) : bigSep (Finset.univ.filter fun t : Fin 16 => tdir t = 0) Φ = iprop(Φ 0 ∗ Φ 1 ∗ Φ 2 ∗ Φ 3 ∗ Φ 4 ∗ Φ 5) :=
  bigSep_eq_bigSepL_of_eq [0, 1, 2, 3, 4, 5] (by decide) (by decide) Φ
theorem bigSep_dir1 (Φ : Fin 16 → sProp 𝕄) : bigSep (Finset.univ.filter fun t : Fin 16 => tdir t = 1) Φ = iprop(Φ 6 ∗ Φ 8 ∗ Φ 10 ∗ Φ 12 ∗ Φ 14) :=
  bigSep_eq_bigSepL_of_eq [6, 8, 10, 12, 14] (by decide) (by decide) Φ
theorem bigSep_dir2 (Φ : Fin 16 → sProp 𝕄) : bigSep (Finset.univ.filter fun t : Fin 16 => tdir t = 2) Φ = iprop(Φ 7 ∗ Φ 9 ∗ Φ 11 ∗ Φ 13 ∗ Φ 15) :=
  bigSep_eq_bigSepL_of_eq [7, 9, 11, 13, 15] (by decide) (by decide) Φ

/-- What the three signals of device `c` hand over, out of its result. -/
theorem bar_give (c : Dev nD) (f : (cc0_stg1_0 : Ref sig .tc).ty.Contents (Elt F)) :
    (outAll c f : sProp 𝕄) ⊢ iprop(outHalf c f ∗ barPay (peerD 0 c) 0 ∗ barPay (peerD 1 c) 1 ∗ barPay (peerD 2 c) 2) := by
  refine (out_parts c f).1.trans (sep_mono_right ?_)
  refine (bigSep_mono fun t _ => oAny_intro c (rslot c t) f).trans ?_
  unfold barPay
  rw [peerD_peerD, peerD_peerD, peerD_peerD]
  rw [bigSep_fin16, bigSep_dir0, bigSep_dir1, bigSep_dir2]
  change (_ : sProp 𝕄) ⊢ (_ : sProp 𝕄)
  iintro ⟨H0, H1, H2, H3, H4, H5, H6, H7, H8, H9, H10, H11, H12, H13, H14, H15⟩
  isplitl [H0 H1 H2 H3 H4 H5]
  · isplitl [H0]; · iexact H0
    isplitl [H1]; · iexact H1
    isplitl [H2]; · iexact H2
    isplitl [H3]; · iexact H3
    isplitl [H4]; · iexact H4
    iexact H5
  isplitl [H6 H8 H10 H12 H14]
  · isplitl [H6]; · iexact H6
    isplitl [H8]; · iexact H8
    isplitl [H10]; · iexact H10
    isplitl [H12]; · iexact H12
    iexact H14
  isplitl [H7]; · iexact H7
  isplitl [H9]; · iexact H9
  isplitl [H11]; · iexact H11
  isplitl [H13]; · iexact H13
  iexact H15

/-- What the three units received hand over: the places of the transfers. -/
theorem bar_take (c : Dev nD) : iprop(barPay (F := F) c 0 ∗ barPay c 1 ∗ barPay c 2)
    ⊢ iprop((Dst c 0 ∗ Dst c 1 ∗ Dst c 2 ∗ Dst c 3 ∗ Dst c 4 ∗ Dst c 5) ∗ (Dst c 6 ∗ Dst c 8 ∗ Dst c 10 ∗ Dst c 12 ∗ Dst c 14)
      ∗ (Dst c 7 ∗ Dst c 9 ∗ Dst c 11 ∗ Dst c 13 ∗ Dst c 15)) := by
  unfold barPay
  rw [bigSep_dir0, bigSep_dir1, bigSep_dir2]
  exact BI.Entails.refl _

/-! ## Chunks passed on -/

/-- A chunk taken from the first neighbour in two halves, one for each direction it is passed on in. -/
theorem kPay_halves (c : Dev nD) (k k₁ k₂ : Fin 32) (hk : 6 ≤ k.val ∧ k.val < 10) (h₁ : k₁.val = k.val + 6) (h₂ : k₂.val = k.val + 16) :
    kPay X c k ⊣⊢ iprop(kPay X c k₁ ∗ kPay X c k₂) := by
  have e₁ : slotK c k₁ = slotK c k := by
    have : ∀ (c : Dev nD) (k k₁ : Fin 32), 6 ≤ k.val ∧ k.val < 10 → k₁.val = k.val + 6 → slotK c k₁ = slotK c k := by decide +kernel
    exact this c k k₁ hk h₁
  have e₂ : slotK c k₂ = slotK c k := by
    have : ∀ (c : Dev nD) (k k₁ : Fin 32), 6 ≤ k.val ∧ k.val < 10 → k₁.val = k.val + 16 → slotK c k₁ = slotK c k := by decide +kernel
    exact this c k k₂ hk h₂
  have s₀ : shareK k = fullShare := by unfold shareK; rw [if_neg (by omega), if_neg (by omega)]
  have s₁ : shareK k₁ = fullShare.left := by unfold shareK; rw [if_pos (by omega)]
  have s₂ : shareK k₂ = fullShare.right := by unfold shareK; rw [if_neg (by omega), if_pos (by omega)]
  rw [kPay_out X c k (by omega), kPay_out X c k₁ (by omega), kPay_out X c k₂ (by omega), e₁, e₂, s₀, s₁, s₂]
  unfold oPts
  exact pointsTo_share (PosShare.mem_left_op_right fullShare)

/-- The cells whose chunks are passed on once more. -/
def zC (c : Dev nD) : Fin 32 := ⟨27 + 2 * (1 - hJ c), by omega⟩
def yC (c : Dev nD) : Fin 32 := ⟨17 + (2 * hJ c + 1), by have : hJ c < 2 := Nat.mod_lt _ (by decide); omega⟩

theorem hJ_lt (c : Dev nD) : hJ c < 2 := Nat.mod_lt _ (by decide)

theorem relay_z (c : Dev nD) : kPay X c (zC c) = kPay X c 16 := by
  have e : slotK c (zC c) = slotK c 16 := by revert c; decide +kernel
  have s₀ : shareK (zC c) = fullShare := by unfold shareK zC; rw [if_neg (by dsimp only; omega), if_neg (by dsimp only; omega)]
  have s₁ : shareK 16 = fullShare := by unfold shareK; rw [if_neg (by decide), if_neg (by decide)]
  rw [kPay_out X c (zC c) (by unfold zC; dsimp only; omega), kPay_out X c 16 (by decide), e, s₀, s₁]

theorem relay_y (c : Dev nD) : kPay X c (yC c) = kPay X c 26 := by
  have e : slotK c (yC c) = slotK c 26 := by revert c; decide +kernel
  have hl := hJ_lt c
  have s₀ : shareK (yC c) = fullShare := by unfold shareK yC; rw [if_neg (by dsimp only; omega), if_neg (by dsimp only; omega)]
  have s₁ : shareK 26 = fullShare := by unfold shareK; rw [if_neg (by decide), if_neg (by decide)]
  rw [kPay_out X c (yC c) (by unfold yC; dsimp only; omega), kPay_out X c 26 (by decide), e, s₀, s₁]

/-- A cell whose transfer has been waited for if `P`. -/
def St (P : Prop) [Decidable P] (c : Dev nD) (k : Fin 32) : sProp 𝕄 := if P then Done c k else Arm c k
/-- What a cell brought, away if `P`. -/
def Pl (P : Prop) [Decidable P] (c : Dev nD) (k : Fin 32) : sProp 𝕄 := if P then iprop(emp) else kPay X c k

/-- The four cells of the third neighbour's first transfers, the one to pass on apart. -/
theorem z_take (c : Dev nD) : iprop(Arm (F := F) c 27 ∗ Arm c 28 ∗ Arm c 29 ∗ Arm c 30) ⊢ iprop(Arm c (zC c) ∗ (Done c (zC c) -∗
    (St (0 = 2 * (1 - hJ c)) c 27 ∗ St (1 = 2 * (1 - hJ c)) c 28 ∗ St (2 = 2 * (1 - hJ c)) c 29 ∗ St (3 = 2 * (1 - hJ c)) c 30))) := by
  have hl := hJ_lt c
  obtain h | h : hJ c = 0 ∨ hJ c = 1 := by omega
  · have e : zC c = 29 := Fin.ext (show 27 + 2 * (1 - hJ c) = 29 by omega)
    rw [e, h]
    unfold St
    rw [if_neg (by decide), if_neg (by decide), if_pos (by decide), if_neg (by decide)]
    iintro ⟨H0, H1, H2, H3⟩
    isplitl [H2]; · iexact H2
    iintro H2
    isplitl [H0]; · iexact H0
    isplitl [H1]; · iexact H1
    isplitl [H2]; · iexact H2
    iexact H3
  · have e : zC c = 27 := Fin.ext (show 27 + 2 * (1 - hJ c) = 27 by omega)
    rw [e, h]
    unfold St
    rw [if_pos (by decide), if_neg (by decide), if_neg (by decide), if_neg (by decide)]
    iintro ⟨H0, H1, H2, H3⟩
    isplitl [H0]; · iexact H0
    iintro H0
    isplitl [H0]; · iexact H0
    isplitl [H1]; · iexact H1
    isplitl [H2]; · iexact H2
    iexact H3

/-- Their four chunks, the one passed on back. -/
theorem z_back (c : Dev nD) : iprop(kPay X c 16 ∗ Pl X (0 = 2 * (1 - hJ c)) c 27 ∗ Pl X (1 = 2 * (1 - hJ c)) c 28
      ∗ Pl X (2 = 2 * (1 - hJ c)) c 29 ∗ Pl X (3 = 2 * (1 - hJ c)) c 30)
    ⊢ iprop(kPay X c 27 ∗ kPay X c 28 ∗ kPay X c 29 ∗ kPay X c 30) := by
  rw [← relay_z]
  have hl := hJ_lt c
  obtain h | h : hJ c = 0 ∨ hJ c = 1 := by omega
  · have e : zC c = 29 := Fin.ext (show 27 + 2 * (1 - hJ c) = 29 by omega)
    rw [e, h]
    unfold Pl
    rw [if_neg (by decide), if_neg (by decide), if_pos (by decide), if_neg (by decide)]
    iintro ⟨H2, H0, H1, -, H3⟩
    isplitl [H0]; · iexact H0
    isplitl [H1]; · iexact H1
    isplitl [H2]; · iexact H2
    iexact H3
  · have e : zC c = 27 := Fin.ext (show 27 + 2 * (1 - hJ c) = 27 by omega)
    rw [e, h]
    unfold Pl
    rw [if_pos (by decide), if_neg (by decide), if_neg (by decide), if_neg (by decide)]
    iintro ⟨H0, -, H1, H2, H3⟩
    isplitl [H0]; · iexact H0
    isplitl [H1]; · iexact H1
    isplitl [H2]; · iexact H2
    iexact H3

/-- The four cells of the second neighbour's first transfers, the one to pass on apart. -/
theorem y_take (c : Dev nD) : iprop(Arm (F := F) c 17 ∗ Arm c 18 ∗ Arm c 19 ∗ Arm c 20) ⊢ iprop(Arm c (yC c) ∗ (Done c (yC c) -∗
    (St (0 = 2 * hJ c + 1) c 17 ∗ St (1 = 2 * hJ c + 1) c 18 ∗ St (2 = 2 * hJ c + 1) c 19 ∗ St (3 = 2 * hJ c + 1) c 20))) := by
  have hl := hJ_lt c
  obtain h | h : hJ c = 0 ∨ hJ c = 1 := by omega
  · have e : yC c = 18 := Fin.ext (show 17 + (2 * hJ c + 1) = 18 by omega)
    rw [e, h]
    unfold St
    rw [if_neg (by decide), if_pos (by decide), if_neg (by decide), if_neg (by decide)]
    iintro ⟨H0, H1, H2, H3⟩
    isplitl [H1]; · iexact H1
    iintro H1
    isplitl [H0]; · iexact H0
    isplitl [H1]; · iexact H1
    isplitl [H2]; · iexact H2
    iexact H3
  · have e : yC c = 20 := Fin.ext (show 17 + (2 * hJ c + 1) = 20 by omega)
    rw [e, h]
    unfold St
    rw [if_neg (by decide), if_neg (by decide), if_neg (by decide), if_pos (by decide)]
    iintro ⟨H0, H1, H2, H3⟩
    isplitl [H3]; · iexact H3
    iintro H3
    isplitl [H0]; · iexact H0
    isplitl [H1]; · iexact H1
    isplitl [H2]; · iexact H2
    iexact H3

/-- Their four chunks, the one passed on back. -/
theorem y_back (c : Dev nD) : iprop(kPay X c 26 ∗ Pl X (0 = 2 * hJ c + 1) c 17 ∗ Pl X (1 = 2 * hJ c + 1) c 18
      ∗ Pl X (2 = 2 * hJ c + 1) c 19 ∗ Pl X (3 = 2 * hJ c + 1) c 20)
    ⊢ iprop(kPay X c 17 ∗ kPay X c 18 ∗ kPay X c 19 ∗ kPay X c 20) := by
  rw [← relay_y]
  have hl := hJ_lt c
  obtain h | h : hJ c = 0 ∨ hJ c = 1 := by omega
  · have e : yC c = 18 := Fin.ext (show 17 + (2 * hJ c + 1) = 18 by omega)
    rw [e, h]
    unfold Pl
    rw [if_neg (by decide), if_pos (by decide), if_neg (by decide), if_neg (by decide)]
    iintro ⟨H1, H0, -, H2, H3⟩
    isplitl [H0]; · iexact H0
    isplitl [H1]; · iexact H1
    isplitl [H2]; · iexact H2
    iexact H3
  · have e : yC c = 20 := Fin.ext (show 17 + (2 * hJ c + 1) = 20 by omega)
    rw [e, h]
    unfold Pl
    rw [if_neg (by decide), if_neg (by decide), if_neg (by decide), if_pos (by decide)]
    iintro ⟨H3, H0, H1, H2, -⟩
    isplitl [H0]; · iexact H0
    isplitl [H1]; · iexact H1
    isplitl [H2]; · iexact H2
    iexact H3

/-- The own half of the rows and the sixteen chunks that arrived are the finished result. -/
theorem out_join (c : Dev nD) :
    iprop(outHalf c (outF X c) ∗ bigSep Finset.univ fun t : Fin 16 => kPay X c (recvk t)) ⊢ outAll c (outF X c) := by
  refine BI.Entails.trans ?_ (out_parts c (outF X c)).2
  rw [show (fun t : Fin 16 => kPay X c (recvk t)) = fun t => oPts c (rslot c t) fullShare (outF X c) from funext fun t => kPay_recv X c t]
  exact BI.Entails.refl _

end Cert.Proof

end
-- ==== Proof.Parts.lean ====
module

public import proofs.«01_k».proof.Proof.Split
public import proofs.«01_k».proof.Proof.Gen.KernelIdeal.Skeleton

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Blocks F) (K : Dev nD × Fin 33 → ℕ)

/-! The semaphores and the levels of the two cells known by the device. -/

theorem zC_sem (c : Dev nD) : ((cc0_scratch6.slice (Rect.unit (s := S5) (k0_off6 c) S1.size (k0_off6_inb c))).squeeze S_ squeezes_S1_S_).sem = dS (zC c) := by
  revert c; decide +kernel
theorem yC_sem (c : Dev nD) : ((cc0_scratch4.slice (Rect.unit (s := S5) (k0_off8 c) S1.size (k0_off8_inb c))).squeeze S_ squeezes_S1_S_).sem = dS (yC c) := by
  revert c; decide +kernel
theorem zC_lv (c : Dev nD) : ∀ t : Fin 16, 16 ≤ t.val + 2 → lvk (zC c).val < lvk (recvk t).val := by revert c; decide +kernel
theorem yC_lv (c : Dev nD) : ∀ t : Fin 16, 16 ≤ t.val + 1 → lvk (yC c).val < lvk (recvk t).val := by revert c; decide +kernel

variable (hx : xM.IsWhole) (ho : oM.IsWhole) (hs : sM.IsWhole)

/-- The first two transfers to the first neighbour. -/
theorem part3_ok (c : Dev nD) (v5 v8 v9 v35 v48 v63 c4 : BitVec 32) (Kt : (PUnit) → sProp 𝕄) :
    iprop(records X K ∗ levAts L lv ∗ sPts X c 0 ∗ Dst c 0 ∗ Tx c 0 ∗ sPts X c 1 ∗ Dst c 1 ∗ Tx c 1 ∗ ow c (OT c 16)
      ∗ (∀ r, (Arm c 0 ∗ Arm c 1 ∗ ow c (OT c 14)) -∗ Kt r))
      ⊢ wpc c (k0_part3 (F := F) xM hx oM ho sM hs cc0_scratch1 cc0_scratch2 cc0_scratch3 cc0_scratch4 cc0_scratch5 cc0_scratch6 c v5 v8 v9 v35 v48 v63 c4) Kt := by
  rw [k0_part3_eq_skeleton]; unfold k0_part3_skel
  simp only [semSignalWord, semWaitWord, Prog.lift, Prog.bind_op, Prog.bind_ret, Prog.pure_eq_ret, Prog.bind_assoc]
  iintro ⟨#HR, #Hlev, Hs0, Hd0, HT0, Hs1, Hd1, HT1, HO, Hk⟩
  iapply (wp_send_x X K c _ 0 (by decide) 0 rfl 15 rfl (dev4_at c) (sck_of 0 rfl _ _) (ock_of _ (off2_at0 c) _ _) rfl rfl) $$ [Hs0 Hd0 HT0 HO]
  · isplitr; · iexact HR
    isplitl [Hs0]; · iexact Hs0
    isplitl [Hd0]; · iexact Hd0
    isplitl [HT0]; · iexact HT0
    iexact HO
  iintro ⟨HA0, HO⟩
  iapply (wp_send_x X K c _ 1 (by decide) 1 rfl 14 rfl (dev5_at c) (sck_of 1 rfl _ _) (ock_of _ (off2_at1 c) _ _) rfl rfl) $$ [Hs1 Hd1 HT1 HO]
  · isplitr; · iexact HR
    isplitl [Hs1]; · iexact Hs1
    isplitl [Hd1]; · iexact Hd1
    isplitl [HT1]; · iexact HT1
    iexact HO
  iintro ⟨HA1, HO⟩
  unfold wpc; rw [wp_ret]; imodintro
  iapply Hk $$ %_ [HA0 HA1 HO]
  · isplitl [HA0]; · iexact HA0
    isplitl [HA1]; · iexact HA1
    iexact HO

/-- The last two transfers to the first neighbour, and the wait for the first chunk from it. -/
theorem part5_ok (c : Dev nD) (v5 v8 v9 v35 v47 v48 v132 : BitVec 32) (Kt : (BitVec 32) → sProp 𝕄) :
    iprop(records X K ∗ levAts L lv ∗ sPts X c 4 ∗ Dst c 4 ∗ Tx c 4 ∗ sPts X c 5 ∗ Dst c 5 ∗ Tx c 5 ∗ Arm c 6 ∗ ow c (OT c 12)
      ∗ (∀ r, (Arm c 4 ∗ Arm c 5 ∗ kPay X c 6 ∗ Done c 6 ∗ ow c (OT c 10)) -∗ Kt r))
      ⊢ wpc c (k0_part5 (F := F) xM hx oM ho sM hs cc0_scratch1 cc0_scratch2 cc0_scratch3 cc0_scratch4 cc0_scratch5 cc0_scratch6 c v5 v8 v9 v35 v47 v48 v132) Kt := by
  rw [k0_part5_eq_skeleton]; unfold k0_part5_skel
  simp only [semSignalWord, semWaitWord, Prog.lift, Prog.bind_op, Prog.bind_ret, Prog.pure_eq_ret, Prog.bind_assoc]
  iintro ⟨#HR, #Hlev, Hs4, Hd4, HT4, Hs5, Hd5, HT5, HA6, HO, Hk⟩
  iapply (wp_send_x X K c _ 4 (by decide) 4 rfl 11 rfl (dev8_at c) (sck_of 4 rfl _ _) (ock_of _ (off4_at0 c) _ _) rfl rfl) $$ [Hs4 Hd4 HT4 HO]
  · isplitr; · iexact HR
    isplitl [Hs4]; · iexact Hs4
    isplitl [Hd4]; · iexact Hd4
    isplitl [HT4]; · iexact HT4
    iexact HO
  iintro ⟨HA4, HO⟩
  iapply (wp_send_x X K c _ 5 (by decide) 5 rfl 10 rfl (dev9_at c) (sck_of 5 rfl _ _) (ock_of _ (off4_at1 c) _ _) rfl rfl) $$ [Hs5 Hd5 HT5 HO]
  · isplitr; · iexact HR
    isplitl [Hs5]; · iexact Hs5
    isplitl [Hd5]; · iexact Hd5
    isplitl [HT5]; · iexact HT5
    iexact HO
  iintro ⟨HA5, HO⟩
  iapply (wp_dwait X K c 6 10 (by decide) rfl) $$ [HA6 HO]
  · isplitr; · iexact HR
    isplitr; · iexact Hlev
    isplitl [HA6]; · iexact HA6
    iexact HO
  iintro ⟨Hp6, HD6, HO⟩
  unfold wpc; rw [wp_ret]; imodintro
  iapply Hk $$ %_ [HA4 HA5 Hp6 HD6 HO]
  · isplitl [HA4]; · iexact HA4
    isplitl [HA5]; · iexact HA5
    isplitl [Hp6]; · iexact Hp6
    isplitl [HD6]; · iexact HD6
    iexact HO

/-- The first chunk passed on in both directions. -/
theorem part6_ok (c : Dev nD) (v2 v5 v8 v9 v10 v14 v49 v165 : BitVec 32) (Kt : (PUnit) → sProp 𝕄) :
    iprop(records X K ∗ levAts L lv ∗ kPay X c 6 ∗ Dst c 6 ∗ Tx c 6 ∗ Dst c 7 ∗ Tx c 7 ∗ ow c (OT c 10)
      ∗ (∀ r, (Arm c 12 ∗ Arm c 22 ∗ ow c (OT c 8)) -∗ Kt r))
      ⊢ wpc c (k0_part6 (F := F) xM hx oM ho sM hs cc0_scratch1 cc0_scratch2 cc0_scratch3 cc0_scratch4 cc0_scratch5 cc0_scratch6 c v2 v5 v8 v9 v10 v14 v49 v165) Kt := by
  rw [k0_part6_eq_skeleton]; unfold k0_part6_skel
  simp only [semSignalWord, semWaitWord, Prog.lift, Prog.bind_op, Prog.bind_ret, Prog.pure_eq_ret, Prog.bind_assoc]
  iintro ⟨#HR, #Hlev, Hp6, Hd6, HT6, Hd7, HT7, HO, Hk⟩
  ihave Hh := (kPay_halves X c 6 12 22 (by decide) rfl rfl).1 $$ Hp6
  icases Hh with ⟨Hp12, Hp22⟩
  iapply (wp_send_p X K c _ 6 (by decide) 9 rfl (dev10_at c) (ock_of (slotK c 12) (off5_at0 c) _ _) (ock_of (slotK c 12) (off5_at0 c) _ _) rfl rfl) $$ [Hp12 Hd6 HT6 HO]
  · isplitr; · iexact HR
    isplitl [Hp12]; · iexact Hp12
    isplitl [Hd6]; · iexact Hd6
    isplitl [HT6]; · iexact HT6
    iexact HO
  iintro ⟨HA12, HO⟩
  iapply (wp_send_p X K c _ 7 (by decide) 8 rfl (dev11_at c) (ock_of (slotK c 22) (off5_at0 c) _ _) (ock_of (slotK c 22) (off5_at0 c) _ _) rfl rfl) $$ [Hp22 Hd7 HT7 HO]
  · isplitr; · iexact HR
    isplitl [Hp22]; · iexact Hp22
    isplitl [Hd7]; · iexact Hd7
    isplitl [HT7]; · iexact HT7
    iexact HO
  iintro ⟨HA22, HO⟩
  unfold wpc; rw [wp_ret]; imodintro
  iapply Hk $$ %_ [HA12 HA22 HO]
  · isplitl [HA12]; · iexact HA12
    isplitl [HA22]; · iexact HA22
    iexact HO

/-- The wait for the second chunk, and its passing on. -/
theorem part7_ok (c : Dev nD) (v2 v5 v8 v9 v10 v14 v35 v49 : BitVec 32) (Kt : (Σ' (_ : BitVec 32), BitVec 32) → sProp 𝕄) :
    iprop(records X K ∗ levAts L lv ∗ Arm c 7 ∗ Dst c 8 ∗ Tx c 8 ∗ Dst c 9 ∗ Tx c 9 ∗ ow c (OT c 8)
      ∗ (∀ r, (Done c 7 ∗ Arm c 13 ∗ Arm c 23 ∗ ow c (OT c 6)) -∗ Kt r))
      ⊢ wpc c (k0_part7 (F := F) xM hx oM ho sM hs cc0_scratch1 cc0_scratch2 cc0_scratch3 cc0_scratch4 cc0_scratch5 cc0_scratch6 c v2 v5 v8 v9 v10 v14 v35 v49) Kt := by
  rw [k0_part7_eq_skeleton]; unfold k0_part7_skel
  simp only [semSignalWord, semWaitWord, Prog.lift, Prog.bind_op, Prog.bind_ret, Prog.pure_eq_ret, Prog.bind_assoc]
  iintro ⟨#HR, #Hlev, HA7, Hd8, HT8, Hd9, HT9, HO, Hk⟩
  iapply (wp_dwait X K c 7 8 (by decide) rfl) $$ [HA7 HO]
  · isplitr; · iexact HR
    isplitr; · iexact Hlev
    isplitl [HA7]; · iexact HA7
    iexact HO
  iintro ⟨Hp7, HD7, HO⟩
  ihave Hh := (kPay_halves X c 7 13 23 (by decide) rfl rfl).1 $$ Hp7
  icases Hh with ⟨Hp13, Hp23⟩
  iapply (wp_send_p X K c _ 8 (by decide) 7 rfl (dev12_at c) (ock_of (slotK c 13) (off5_at1 c) _ _) (ock_of (slotK c 13) (off5_at1 c) _ _) rfl rfl) $$ [Hp13 Hd8 HT8 HO]
  · isplitr; · iexact HR
    isplitl [Hp13]; · iexact Hp13
    isplitl [Hd8]; · iexact Hd8
    isplitl [HT8]; · iexact HT8
    iexact HO
  iintro ⟨HA13, HO⟩
  iapply (wp_send_p X K c _ 9 (by decide) 6 rfl (dev13_at c) (ock_of (slotK c 23) (off5_at1 c) _ _) (ock_of (slotK c 23) (off5_at1 c) _ _) rfl rfl) $$ [Hp23 Hd9 HT9 HO]
  · isplitr; · iexact HR
    isplitl [Hp23]; · iexact Hp23
    isplitl [Hd9]; · iexact Hd9
    isplitl [HT9]; · iexact HT9
    iexact HO
  iintro ⟨HA23, HO⟩
  unfold wpc; rw [wp_ret]; imodintro
  iapply Hk $$ %_ [HD7 HA13 HA23 HO]
  · isplitl [HD7]; · iexact HD7
    isplitl [HA13]; · iexact HA13
    isplitl [HA23]; · iexact HA23
    iexact HO

/-- The wait for the third chunk, and its passing on. -/
theorem part8_ok (c : Dev nD) (v2 v5 v8 v10 v14 v35 v49 v230 v231 : BitVec 32) (Kt : (PUnit) → sProp 𝕄) :
    iprop(records X K ∗ levAts L lv ∗ Arm c 8 ∗ Dst c 10 ∗ Tx c 10 ∗ Dst c 11 ∗ Tx c 11 ∗ ow c (OT c 6)
      ∗ (∀ r, (Done c 8 ∗ Arm c 14 ∗ Arm c 24 ∗ ow c (OT c 4)) -∗ Kt r))
      ⊢ wpc c (k0_part8 (F := F) xM hx oM ho sM hs cc0_scratch1 cc0_scratch2 cc0_scratch3 cc0_scratch4 cc0_scratch5 cc0_scratch6 c v2 v5 v8 v10 v14 v35 v49 v230 v231) Kt := by
  rw [k0_part8_eq_skeleton]; unfold k0_part8_skel
  simp only [semSignalWord, semWaitWord, Prog.lift, Prog.bind_op, Prog.bind_ret, Prog.pure_eq_ret, Prog.bind_assoc]
  iintro ⟨#HR, #Hlev, HA8, Hd10, HT10, Hd11, HT11, HO, Hk⟩
  iapply (wp_dwait X K c 8 6 (by decide) rfl) $$ [HA8 HO]
  · isplitr; · iexact HR
    isplitr; · iexact Hlev
    isplitl [HA8]; · iexact HA8
    iexact HO
  iintro ⟨Hp8, HD8, HO⟩
  ihave Hh := (kPay_halves X c 8 14 24 (by decide) rfl rfl).1 $$ Hp8
  icases Hh with ⟨Hp14, Hp24⟩
  iapply (wp_send_p X K c _ 10 (by decide) 5 rfl (dev14_at c) (ock_of (slotK c 14) (off5_at2 c) _ _) (ock_of (slotK c 14) (off5_at2 c) _ _) rfl rfl) $$ [Hp14 Hd10 HT10 HO]
  · isplitr; · iexact HR
    isplitl [Hp14]; · iexact Hp14
    isplitl [Hd10]; · iexact Hd10
    isplitl [HT10]; · iexact HT10
    iexact HO
  iintro ⟨HA14, HO⟩
  iapply (wp_send_p X K c _ 11 (by decide) 4 rfl (dev15_at c) (ock_of (slotK c 24) (off5_at2 c) _ _) (ock_of (slotK c 24) (off5_at2 c) _ _) rfl rfl) $$ [Hp24 Hd11 HT11 HO]
  · isplitr; · iexact HR
    isplitl [Hp24]; · iexact Hp24
    isplitl [Hd11]; · iexact Hd11
    isplitl [HT11]; · iexact HT11
    iexact HO
  iintro ⟨HA24, HO⟩
  unfold wpc; rw [wp_ret]; imodintro
  iapply Hk $$ %_ [HD8 HA14 HA24 HO]
  · isplitl [HD8]; · iexact HD8
    isplitl [HA14]; · iexact HA14
    isplitl [HA24]; · iexact HA24
    iexact HO

/-- The wait for the fourth chunk, and its passing on to the second neighbour. -/
theorem part9_ok (c : Dev nD) (v2 v5 v8 v9 v10 v14 v35 v49 : BitVec 32) (Kt : (PUnit) → sProp 𝕄) :
    iprop(records X K ∗ levAts L lv ∗ Arm c 9 ∗ Dst c 12 ∗ Tx c 12 ∗ ow c (OT c 4)
      ∗ (∀ r, (Done c 9 ∗ Arm c 15 ∗ kPay X c 25 ∗ ow c (OT c 3)) -∗ Kt r))
      ⊢ wpc c (k0_part9 (F := F) xM hx oM ho sM hs cc0_scratch1 cc0_scratch2 cc0_scratch3 cc0_scratch4 cc0_scratch5 cc0_scratch6 c v2 v5 v8 v9 v10 v14 v35 v49) Kt := by
  rw [k0_part9_eq_skeleton]; unfold k0_part9_skel
  simp only [semSignalWord, semWaitWord, Prog.lift, Prog.bind_op, Prog.bind_ret, Prog.pure_eq_ret, Prog.bind_assoc]
  iintro ⟨#HR, #Hlev, HA9, Hd12, HT12, HO, Hk⟩
  iapply (wp_dwait X K c 9 4 (by decide) rfl) $$ [HA9 HO]
  · isplitr; · iexact HR
    isplitr; · iexact Hlev
    isplitl [HA9]; · iexact HA9
    iexact HO
  iintro ⟨Hp9, HD9, HO⟩
  ihave Hh := (kPay_halves X c 9 15 25 (by decide) rfl rfl).1 $$ Hp9
  icases Hh with ⟨Hp15, Hp25⟩
  iapply (wp_send_p X K c _ 12 (by decide) 3 rfl (dev16_at c) (ock_of (slotK c 15) (off5_at3 c) _ _) (ock_of (slotK c 15) (off5_at3 c) _ _) rfl rfl) $$ [Hp15 Hd12 HT12 HO]
  · isplitr; · iexact HR
    isplitl [Hp15]; · iexact Hp15
    isplitl [Hd12]; · iexact Hd12
    isplitl [HT12]; · iexact HT12
    iexact HO
  iintro ⟨HA15, HO⟩
  unfold wpc; rw [wp_ret]; imodintro
  iapply Hk $$ %_ [HD9 HA15 Hp25 HO]
  · isplitl [HD9]; · iexact HD9
    isplitl [HA15]; · iexact HA15
    isplitl [Hp25]; · iexact Hp25
    iexact HO

/-- Its passing on to the third neighbour, and the wait for the chunk of that neighbour to pass on. -/
theorem part10_ok (c : Dev nD) (v2 v5 v8 v10 v11 v14 v43 v49 : BitVec 32) (Kt : (BitVec 32) → sProp 𝕄) :
    iprop(records X K ∗ levAts L lv ∗ kPay X c 25 ∗ Dst c 13 ∗ Tx c 13 ∗ Arm c (zC c) ∗ ow c (OT c 3)
      ∗ (∀ r, (Arm c 25 ∗ kPay X c 16 ∗ Done c (zC c) ∗ ow c (OT c 2)) -∗ Kt r))
      ⊢ wpc c (k0_part10 (F := F) xM hx oM ho sM hs cc0_scratch1 cc0_scratch2 cc0_scratch3 cc0_scratch4 cc0_scratch5 cc0_scratch6 c v2 v5 v8 v10 v11 v14 v43 v49) Kt := by
  rw [k0_part10_eq_skeleton]; unfold k0_part10_skel
  simp only [semSignalWord, semWaitWord, Prog.lift, Prog.bind_op, Prog.bind_ret, Prog.pure_eq_ret, Prog.bind_assoc]
  iintro ⟨#HR, #Hlev, Hp25, Hd13, HT13, HAz, HO, Hk⟩
  iapply (wp_send_p X K c _ 13 (by decide) 2 rfl (dev17_at c) (ock_of (slotK c 25) (off5_at3 c) _ _) (ock_of (slotK c 25) (off5_at3 c) _ _) rfl rfl) $$ [Hp25 Hd13 HT13 HO]
  · isplitr; · iexact HR
    isplitl [Hp25]; · iexact Hp25
    isplitl [Hd13]; · iexact Hd13
    isplitl [HT13]; · iexact HT13
    iexact HO
  iintro ⟨HA25, HO⟩
  iapply (wp_dwait X K c (zC c) 2 (zC_lv c) (zC_sem c)) $$ [HAz HO]
  · isplitr; · iexact HR
    isplitr; · iexact Hlev
    isplitl [HAz]; · iexact HAz
    iexact HO
  iintro ⟨Hpz, HDz, HO⟩
  ihave Hpz := (Entails.of_eq (relay_z X c)) $$ Hpz
  unfold wpc; rw [wp_ret]; imodintro
  iapply Hk $$ %_ [HA25 Hpz HDz HO]
  · isplitl [HA25]; · iexact HA25
    isplitl [Hpz]; · iexact Hpz
    isplitl [HDz]; · iexact HDz
    iexact HO

/-- Its passing on to the second neighbour, the wait for the chunk of that neighbour to pass on, and its passing on to the third. -/
theorem part11_ok (c : Dev nD) (v2 v5 v8 v10 v11 v14 v40 v49 : BitVec 32) (Kt : (Σ' (_ : BitVec 32), BitVec 32) → sProp 𝕄) :
    iprop(records X K ∗ levAts L lv ∗ kPay X c 16 ∗ Dst c 14 ∗ Tx c 14 ∗ Arm c (yC c) ∗ Dst c 15 ∗ Tx c 15 ∗ ow c (OT c 2)
      ∗ (∀ r, (Arm c 16 ∗ Done c (yC c) ∗ Arm c 26 ∗ ow c (OT c 0)) -∗ Kt r))
      ⊢ wpc c (k0_part11 (F := F) xM hx oM ho sM hs cc0_scratch1 cc0_scratch2 cc0_scratch3 cc0_scratch4 cc0_scratch5 cc0_scratch6 c v2 v5 v8 v10 v11 v14 v40 v49) Kt := by
  rw [k0_part11_eq_skeleton]; unfold k0_part11_skel
  simp only [semSignalWord, semWaitWord, Prog.lift, Prog.bind_op, Prog.bind_ret, Prog.pure_eq_ret, Prog.bind_assoc]
  iintro ⟨#HR, #Hlev, Hp16, Hd14, HT14, HAy, Hd15, HT15, HO, Hk⟩
  iapply (wp_send_p X K c _ 14 (by decide) 1 rfl (dev18_at c) (ock_of (slotK c 16) (off7_at c) _ _) (ock_of (slotK c 16) (off7_at c) _ _) rfl rfl) $$ [Hp16 Hd14 HT14 HO]
  · isplitr; · iexact HR
    isplitl [Hp16]; · iexact Hp16
    isplitl [Hd14]; · iexact Hd14
    isplitl [HT14]; · iexact HT14
    iexact HO
  iintro ⟨HA16, HO⟩
  iapply (wp_dwait X K c (yC c) 1 (yC_lv c) (yC_sem c)) $$ [HAy HO]
  · isplitr; · iexact HR
    isplitr; · iexact Hlev
    isplitl [HAy]; · iexact HAy
    iexact HO
  iintro ⟨Hpy, HDy, HO⟩
  ihave Hp26 := (Entails.of_eq (relay_y X c)) $$ Hpy
  iapply (wp_send_p X K c _ 15 (by decide) 0 rfl (dev19_at c) (ock_of (slotK c 26) (off9_at c) _ _) (ock_of (slotK c 26) (off9_at c) _ _) rfl rfl) $$ [Hp26 Hd15 HT15 HO]
  · isplitr; · iexact HR
    isplitl [Hp26]; · iexact Hp26
    isplitl [Hd15]; · iexact Hd15
    isplitl [HT15]; · iexact HT15
    iexact HO
  iintro ⟨HA26, HO⟩
  unfold wpc; rw [wp_ret]; imodintro
  iapply Hk $$ %_ [HA16 HDy HA26 HO]
  · isplitl [HA16]; · iexact HA16
    isplitl [HDy]; · iexact HDy
    isplitl [HA26]; · iexact HA26
    iexact HO

/-- The waits for the end of five sends. -/
theorem part15_ok (c : Dev nD) (Kt : (PUnit) → sProp 𝕄) :
    iprop(records X K ∗ levAts L lv ∗ Arm c 2 ∗ Arm c 3 ∗ Arm c 4 ∗ Arm c 5 ∗ Arm c 12 ∗ ow c (OT c 0)
      ∗ (∀ r, (kPay X c 2 ∗ Done c 2 ∗ kPay X c 3 ∗ Done c 3 ∗ kPay X c 4 ∗ Done c 4 ∗ kPay X c 5 ∗ Done c 5 ∗ kPay X c 12 ∗ Done c 12 ∗ ow c (OT c 0)) -∗ Kt r))
      ⊢ wpc c (k0_part15 (F := F) xM hx oM ho sM hs cc0_scratch1 cc0_scratch2 cc0_scratch3 cc0_scratch4 cc0_scratch5 cc0_scratch6 c) Kt := by
  rw [k0_part15_eq_skeleton]; unfold k0_part15_skel
  simp only [semSignalWord, semWaitWord, Prog.lift, Prog.bind_op, Prog.bind_ret, Prog.pure_eq_ret, Prog.bind_assoc]
  iintro ⟨#HR, #Hlev, HA2, HA3, HA4, HA5, HA12, HO, Hk⟩
  iapply (wp_dwait X K c 2 0 (by decide) rfl) $$ [HA2 HO]
  · isplitr; · iexact HR
    isplitr; · iexact Hlev
    isplitl [HA2]; · iexact HA2
    iexact HO
  iintro ⟨Hp2, HD2, HO⟩
  iapply (wp_dwait X K c 3 0 (by decide) rfl) $$ [HA3 HO]
  · isplitr; · iexact HR
    isplitr; · iexact Hlev
    isplitl [HA3]; · iexact HA3
    iexact HO
  iintro ⟨Hp3, HD3, HO⟩
  iapply (wp_dwait X K c 4 0 (by decide) rfl) $$ [HA4 HO]
  · isplitr; · iexact HR
    isplitr; · iexact Hlev
    isplitl [HA4]; · iexact HA4
    iexact HO
  iintro ⟨Hp4, HD4, HO⟩
  iapply (wp_dwait X K c 5 0 (by decide) rfl) $$ [HA5 HO]
  · isplitr; · iexact HR
    isplitr; · iexact Hlev
    isplitl [HA5]; · iexact HA5
    iexact HO
  iintro ⟨Hp5, HD5, HO⟩
  iapply (wp_dwait X K c 12 0 (by decide) rfl) $$ [HA12 HO]
  · isplitr; · iexact HR
    isplitr; · iexact Hlev
    isplitl [HA12]; · iexact HA12
    iexact HO
  iintro ⟨Hp12, HD12, HO⟩
  unfold wpc; rw [wp_ret]; imodintro
  iapply Hk $$ %_ [Hp2 HD2 Hp3 HD3 Hp4 HD4 Hp5 HD5 Hp12 HD12 HO]
  · isplitl [Hp2]; · iexact Hp2
    isplitl [HD2]; · iexact HD2
    isplitl [Hp3]; · iexact Hp3
    isplitl [HD3]; · iexact HD3
    isplitl [Hp4]; · iexact Hp4
    isplitl [HD4]; · iexact HD4
    isplitl [Hp5]; · iexact Hp5
    isplitl [HD5]; · iexact HD5
    isplitl [Hp12]; · iexact Hp12
    isplitl [HD12]; · iexact HD12
    iexact HO

/-- The waits for the end of six sends. -/
theorem part16_ok (c : Dev nD) (Kt : (PUnit) → sProp 𝕄) :
    iprop(records X K ∗ levAts L lv ∗ Arm c 13 ∗ Arm c 14 ∗ Arm c 15 ∗ Arm c 16 ∗ Arm c 22 ∗ Arm c 23 ∗ ow c (OT c 0)
      ∗ (∀ r, (kPay X c 13 ∗ Done c 13 ∗ kPay X c 14 ∗ Done c 14 ∗ kPay X c 15 ∗ Done c 15 ∗ kPay X c 16 ∗ Done c 16 ∗ kPay X c 22 ∗ Done c 22 ∗ kPay X c 23 ∗ Done c 23 ∗ ow c (OT c 0)) -∗ Kt r))
      ⊢ wpc c (k0_part16 (F := F) xM hx oM ho sM hs cc0_scratch1 cc0_scratch2 cc0_scratch3 cc0_scratch4 cc0_scratch5 cc0_scratch6 c) Kt := by
  rw [k0_part16_eq_skeleton]; unfold k0_part16_skel
  simp only [semSignalWord, semWaitWord, Prog.lift, Prog.bind_op, Prog.bind_ret, Prog.pure_eq_ret, Prog.bind_assoc]
  iintro ⟨#HR, #Hlev, HA13, HA14, HA15, HA16, HA22, HA23, HO, Hk⟩
  iapply (wp_dwait X K c 13 0 (by decide) rfl) $$ [HA13 HO]
  · isplitr; · iexact HR
    isplitr; · iexact Hlev
    isplitl [HA13]; · iexact HA13
    iexact HO
  iintro ⟨Hp13, HD13, HO⟩
  iapply (wp_dwait X K c 14 0 (by decide) rfl) $$ [HA14 HO]
  · isplitr; · iexact HR
    isplitr; · iexact Hlev
    isplitl [HA14]; · iexact HA14
    iexact HO
  iintro ⟨Hp14, HD14, HO⟩
  iapply (wp_dwait X K c 15 0 (by decide) rfl) $$ [HA15 HO]
  · isplitr; · iexact HR
    isplitr; · iexact Hlev
    isplitl [HA15]; · iexact HA15
    iexact HO
  iintro ⟨Hp15, HD15, HO⟩
  iapply (wp_dwait X K c 16 0 (by decide) rfl) $$ [HA16 HO]
  · isplitr; · iexact HR
    isplitr; · iexact Hlev
    isplitl [HA16]; · iexact HA16
    iexact HO
  iintro ⟨Hp16, HD16, HO⟩
  iapply (wp_dwait X K c 22 0 (by decide) rfl) $$ [HA22 HO]
  · isplitr; · iexact HR
    isplitr; · iexact Hlev
    isplitl [HA22]; · iexact HA22
    iexact HO
  iintro ⟨Hp22, HD22, HO⟩
  iapply (wp_dwait X K c 23 0 (by decide) rfl) $$ [HA23 HO]
  · isplitr; · iexact HR
    isplitr; · iexact Hlev
    isplitl [HA23]; · iexact HA23
    iexact HO
  iintro ⟨Hp23, HD23, HO⟩
  unfold wpc; rw [wp_ret]; imodintro
  iapply Hk $$ %_ [Hp13 HD13 Hp14 HD14 Hp15 HD15 Hp16 HD16 Hp22 HD22 Hp23 HD23 HO]
  · isplitl [Hp13]; · iexact Hp13
    isplitl [HD13]; · iexact HD13
    isplitl [Hp14]; · iexact Hp14
    isplitl [HD14]; · iexact HD14
    isplitl [Hp15]; · iexact Hp15
    isplitl [HD15]; · iexact HD15
    isplitl [Hp16]; · iexact Hp16
    isplitl [HD16]; · iexact HD16
    isplitl [Hp22]; · iexact Hp22
    isplitl [HD22]; · iexact HD22
    isplitl [Hp23]; · iexact Hp23
    isplitl [HD23]; · iexact HD23
    iexact HO

end Cert.Proof

end
-- ==== Proof.Fills.lean ====
module

public import proofs.«01_k».proof.Proof.Split
public import proofs.«01_k».proof.Proof.Gen.KernelIdeal.Skeleton

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Blocks F) (K : Dev nD × Fin 33 → ℕ)

/-- The rows stored to last lie in the last rows of the send buffer. -/
theorem hi_sub' (is : ∀ a, ![512, 0] a + S256x512.size a ≤ S768x512.size a) :
    (sM.access (Rect.unit (s := S768x512) ![512, 0] S256x512.size is)).setOn Finset.univ ⊆ sHi := by
  intro i h
  have h' : i ∈ (Rect.unit (s := S768x512) ![512, 0] S256x512.size is).set := by
    rw [View.setOn_univ] at h; exact (View.set_slice_whole (cc0_scratch0 : Ref sig .tc) _) ▸ h
  rw [mem_sHi]
  rw [Rect.mem_set_unit] at h'
  exact (h' 0).1
theorem hi_sub (is : ∀ a, ![512, 0] a + S256x512.size a ≤ S768x512.size a) :
    sM.view.setOn (Rect.unit (s := S768x512) ![512, 0] S256x512.size is).toLoadRect.set ⊆ sHi := by
  intro i h
  have h' : i ∈ (Rect.unit (s := S768x512) ![512, 0] S256x512.size is).set := by
    obtain ⟨a, ha, rfl⟩ := Finset.mem_map.mp h
    exact ha
  rw [mem_sHi]
  rw [Rect.mem_set_unit] at h'
  exact (h' 0).1
theorem half_sub' (c : Dev nD) (is : ∀ a, k0_off11 c a + S2048x512.size a ≤ S4096x512.size a) :
    (oM.access (Rect.unit (s := S4096x512) (k0_off11 c) S2048x512.size is)).setOn Finset.univ ⊆ oHalf c := by
  intro i h
  have h' : i ∈ (Rect.unit (s := S4096x512) (k0_off11 c) S2048x512.size is).set := by
    rw [View.setOn_univ] at h; exact (View.set_slice_whole (cc0_stg1_0 : Ref sig .tc) _) ▸ h
  rw [Rect.mem_set_unit] at h'
  have a := h' 0
  have p0 : k0_off11 c 0 = 2048 * hX c := by rw [off11_at]; rfl
  rw [p0] at a
  have b : (i 0).val < 2048 * hX c + 2048 := a.2
  have a := a.1
  exact Finset.mem_filter.mpr ⟨Finset.mem_univ _, by omega⟩
theorem half_sub (c : Dev nD) (is : ∀ a, k0_off11 c a + S2048x512.size a ≤ S4096x512.size a) :
    oM.view.setOn (Rect.unit (s := S4096x512) (k0_off11 c) S2048x512.size is).toLoadRect.set ⊆ oHalf c := by
  intro i h
  have h' : i ∈ (Rect.unit (s := S4096x512) (k0_off11 c) S2048x512.size is).set := by
    obtain ⟨a, ha, rfl⟩ := Finset.mem_map.mp h
    exact ha
  rw [Rect.mem_set_unit] at h'
  have a := h' 0
  have p0 : k0_off11 c 0 = 2048 * hX c := by rw [off11_at]; rfl
  rw [p0] at a
  have b : (i 0).val < 2048 * hX c + 2048 := a.2
  have a := a.1
  exact Finset.mem_filter.mpr ⟨Finset.mem_univ _, by omega⟩

/-- The shard of device `c`, in its staging buffer. -/
def xPts (c : Dev nD) : sProp 𝕄 := ((c : Thread nD τ).loc cc0_stg0_0) ↦{fullShare} X c

/-! The stores of the device's own rows. -/

theorem wp_xload (c : Dev nD) {r : LoadRect S2048x1024} {hl : xM.view.LoadsAt r}
    {α : Type} {Q : α → sProp 𝕄} {k : (r.shape.Idx → Elt F .bf16) → Prog (TpuEff nD τ sig (Elt F) Λ₀ .tc) α} :
    (xPts X c : sProp 𝕄) ⊢ iprop((xPts X c -∗ wpc c (k (xM.view.readAt (Elt F) r (X c))) Q) -∗ wpc c (.op (.load xM r hl) k) Q) :=
  wp_load 𝒱₀ (c : Thread nD τ) none Set.univ (m := xM) (Finset.subset_univ _)

theorem wp_sload (c : Dev nD) {f : (cc0_scratch0 : Ref sig .tc).ty.Contents (Elt F)} {r : LoadRect S768x512} {hl : sM.view.LoadsAt r}
    {α : Type} {Q : α → sProp 𝕄} {k : (r.shape.Idx → Elt F .bf16) → Prog (TpuEff nD τ sig (Elt F) Λ₀ .tc) α} :
    (scrAll c f : sProp 𝕄) ⊢ iprop((scrAll c f -∗ wpc c (k (sM.view.readAt (Elt F) r f)) Q) -∗ wpc c (.op (.load sM r hl) k) Q) :=
  wp_load 𝒱₀ (c : Thread nD τ) none Set.univ (m := sM) (Finset.subset_univ _)

/-- The rows for the first four chunks are stored: they are ready to be sent. -/
theorem wp_fill1 (c : Dev nD) {f : (cc0_scratch0 : Ref sig .tc).ty.Contents (Elt F)} {ir : ∀ a, k0_off1 c a + S512x512.size a ≤ S2048x1024.size a}
    {is : ∀ a, ![0, 0] a + S512x512.size a ≤ S768x512.size a} {hx hm}
    {α : Type} {Q : α → sProp 𝕄} {k : PUnit → Prog (TpuEff nD τ sig (Elt F) Λ₀ .tc) α} :
    (scrAll c f : sProp 𝕄) ⊢ iprop((((sPts X c 0 ∗ sPts X c 1 ∗ sPts X c 2 ∗ sPts X c 3) ∗ ∃ g, scrHi c g) -∗ wpc c (k ⟨⟩) Q)
      -∗ wpc c (.op (.store sM (Rect.unit (s := S768x512) ![0, 0] S512x512.size is)
        (k0_pay1 (xM.view.readAt (Elt F) (Rect.unit (s := S2048x1024) (k0_off1 c) S512x512.size ir).toLoadRect (X c))) Finset.univ hx hm) k) Q) := by
  have hh := scr_split1 X c _ (fun i hi => fill1 X c f ir is i hi)
  unfold scrAll at hh
  iintro H Hk
  unfold scrAll
  iapply (wp_store 𝒱₀ (c : Thread nD τ) none Set.univ (hx := hx) (hm := hm) (S := Finset.univ) (Finset.subset_univ _)) $$ H
  iintro Hs
  iapply Hk
  ihave Hs := hh $$ Hs
  icases Hs with ⟨Ha, Hb⟩
  isplitl [Ha]; · iexact Ha
  iexists _; iexact Hb

/-- The remaining rows of the send buffer may be loaded from. -/
theorem wp_hload (c : Dev nD) {f : (cc0_scratch0 : Ref sig .tc).ty.Contents (Elt F)} {is : ∀ a, ![512, 0] a + S256x512.size a ≤ S768x512.size a} {hl}
    {α : Type} {Q : α → sProp 𝕄} {k} :
    (scrHi c f : sProp 𝕄) ⊢ iprop((scrHi c f -∗ wpc c (k (sM.view.readAt (Elt F) (Rect.unit (s := S768x512) ![512, 0] S256x512.size is).toLoadRect f)) Q)
      -∗ wpc c (.op (.load sM (Rect.unit (s := S768x512) ![512, 0] S256x512.size is).toLoadRect hl) k) Q) :=
  wp_load 𝒱₀ (c : Thread nD τ) none Set.univ (m := sM) (hi_sub is)

/-- The rows for the last two chunks are stored. -/
theorem wp_fill2 (c : Dev nD) {f : (cc0_scratch0 : Ref sig .tc).ty.Contents (Elt F)} {ir : ∀ a, k0_off3 c a + S256x512.size a ≤ S2048x1024.size a}
    {is : ∀ a, ![512, 0] a + S256x512.size a ≤ S768x512.size a} {hx hm}
    {α : Type} {Q : α → sProp 𝕄} {k : PUnit → Prog (TpuEff nD τ sig (Elt F) Λ₀ .tc) α} :
    (scrHi c f : sProp 𝕄) ⊢ iprop(((sPts X c 4 ∗ sPts X c 5) -∗ wpc c (k ⟨⟩) Q)
      -∗ wpc c (.op (.store sM (Rect.unit (s := S768x512) ![512, 0] S256x512.size is)
        (k0_pay2 (xM.view.readAt (Elt F) (Rect.unit (s := S2048x1024) (k0_off3 c) S256x512.size ir).toLoadRect (X c))) Finset.univ hx hm) k) Q) := by
  have hh := scr_split2 X c _ (fun i hi => fill2 X c f ir is i hi)
  unfold scrHi at hh
  iintro H Hk
  unfold scrHi
  iapply (wp_store 𝒱₀ (c : Thread nD τ) none Set.univ (hx := hx) (hm := hm) (S := sHi) (hi_sub' is)) $$ H
  iintro Hs
  iapply Hk
  iapply hh $$ Hs

/-- Contents of the device's own rows of the result that agree there are held alike. -/
theorem half_eq (c : Dev nD) (g : (cc0_stg1_0 : Ref sig .tc).ty.Contents (Elt F)) (hg : ∀ i : S4096x512.Idx, (i 0).val / 2048 = hX c → g i = outF X c i) :
    (outHalf c g : sProp 𝕄) = outHalf c (outF X c) :=
  pointsTo_congr fun i hi => hg i (Finset.mem_filter.mp hi).2

theorem wp_oload (c : Dev nD) {f : (cc0_stg1_0 : Ref sig .tc).ty.Contents (Elt F)} {is : ∀ a, k0_off11 c a + S2048x512.size a ≤ S4096x512.size a} {hl}
    {α : Type} {Q : α → sProp 𝕄} {k} :
    (outHalf c f : sProp 𝕄) ⊢ iprop((outHalf c f -∗ wpc c (k (oM.view.readAt (Elt F) (Rect.unit (s := S4096x512) (k0_off11 c) S2048x512.size is).toLoadRect f)) Q)
      -∗ wpc c (.op (.load oM (Rect.unit (s := S4096x512) (k0_off11 c) S2048x512.size is).toLoadRect hl) k) Q) :=
  wp_load 𝒱₀ (c : Thread nD τ) none Set.univ (m := oM) (half_sub c is)

/-- The device's own rows of the result are stored. -/
theorem wp_fill3 (c : Dev nD) {f : (cc0_stg1_0 : Ref sig .tc).ty.Contents (Elt F)} {ir : ∀ a, k0_off10 c a + S2048x512.size a ≤ S2048x1024.size a}
    {is : ∀ a, k0_off11 c a + S2048x512.size a ≤ S4096x512.size a} {hx hm}
    {α : Type} {Q : α → sProp 𝕄} {k : PUnit → Prog (TpuEff nD τ sig (Elt F) Λ₀ .tc) α} :
    (outHalf c f : sProp 𝕄) ⊢ iprop((outHalf c (outF X c) -∗ wpc c (k ⟨⟩) Q)
      -∗ wpc c (.op (.store oM (Rect.unit (s := S4096x512) (k0_off11 c) S2048x512.size is)
        (k0_pay3 (xM.view.readAt (Elt F) (Rect.unit (s := S2048x1024) (k0_off10 c) S2048x512.size ir).toLoadRect (X c))) Finset.univ hx hm) k) Q) := by
  have hh := Entails.of_eq (half_eq X c _ (fun i hi => fill3 X c f ir is i hi))
  unfold outHalf at hh
  iintro H Hk
  unfold outHalf
  iapply (wp_store 𝒱₀ (c : Thread nD τ) none Set.univ (hx := hx) (hm := hm) (S := oHalf c) (half_sub' c is)) $$ H
  iintro Hs
  iapply Hk
  iapply hh $$ Hs

variable (hx : xM.IsWhole) (ho : oM.IsWhole) (hs : sM.IsWhole)

/-- The first two signals of the barrier. -/
theorem part1_ok (c : Dev nD) (Kt : (Σ' (d0 : Dev nD) (v2 : BitVec 32) (v5 : BitVec 32) (v8 : BitVec 32) (v9 : BitVec 32) (v10 : BitVec 32) (v11 : BitVec 32) (v14 : BitVec 32) (v15 : Sems sig S_), BitVec 32) → sProp 𝕄) :
    iprop(records X K ∗ levAts L lv ∗ dutyTok ER (barCell (peerD 0 c)) 0 0 ∗ barPay (peerD 0 c) 0 ∗ dutyTok ER (barCell (peerD 1 c)) 0 1 ∗ barPay (peerD 1 c) 1 ∗ ow c (O₀ c)
      ∗ (∀ r, ⌜r.1 = c ∧ r.2.2.2.2.2.2.2.2.1 = SemArray.scalar (sig.barrier 0 rfl)⌝ -∗ (ow c (O₁ c)) -∗ Kt r))
      ⊢ wpc c (k0_part1 (F := F) xM hx oM ho sM hs cc0_scratch1 cc0_scratch2 cc0_scratch3 cc0_scratch4 cc0_scratch5 cc0_scratch6) Kt := by
  rw [k0_part1_eq_skeleton]; unfold k0_part1_skel
  simp only [semSignalWord, semWaitWord, Prog.lift, Prog.bind_op, Prog.bind_ret, Prog.pure_eq_ret, Prog.bind_assoc, wp_deviceId]
  iintro ⟨#HR, #Hlev, Ht0, Hb0, Ht1, Hb1, HO, Hk⟩
  iapply (wp_sig X K c _ 0 (dev1_at c) rfl rfl (O₀ c) (O₂ c) rfl) $$ [Ht0 Hb0 HO]
  · isplitr; · iexact HR
    isplitl [HO]; · iexact HO
    isplitl [Ht0]; · iexact Ht0
    iexact Hb0
  iintro HO
  iapply (wp_sig X K c _ 1 (dev2_at c) rfl rfl (O₂ c) (O₁ c) rfl) $$ [Ht1 Hb1 HO]
  · isplitr; · iexact HR
    isplitl [HO]; · iexact HO
    isplitl [Ht1]; · iexact Ht1
    iexact Hb1
  iintro HO
  unfold wpc; rw [wp_ret]; imodintro
  iapply Hk $$ %_ %⟨rfl, rfl⟩ [HO]
  · iexact HO

/-- The last signal, the wait of the barrier, and the first store. -/
theorem part2_ok (c : Dev nD) (v2 v5 v9 v10 v11 v14 v31 : BitVec 32) (Kt : (Σ' (v35 : BitVec 32) (v38 : BitVec 32) (v40 : BitVec 32) (v43 : BitVec 32) (v47 : BitVec 32) (v48 : BitVec 32) (v49 : BitVec 32) (v63 : BitVec 32), BitVec 32) → sProp 𝕄) :
    iprop(records X K ∗ levAts L lv ∗ dutyTok ER (barCell (peerD 2 c)) 0 2 ∗ barPay (peerD 2 c) 2 ∗ ow c (O₁ c) ∗ atPos ER (barCell c) 0 ∅ 0 ∗ cred (tallyAt (barCell c) () 3) ∗ xPts X c ∗ (∃ f, scrAll c f)
      ∗ (∀ r, (ow c (OT c 16) ∗ atPos ER (barCell c) 1 ∅ 0 ∗ barPay c 0 ∗ barPay c 1 ∗ barPay c 2 ∗ xPts X c ∗ (sPts X c 0 ∗ sPts X c 1 ∗ sPts X c 2 ∗ sPts X c 3) ∗ (∃ f, scrHi c f)) -∗ Kt r))
      ⊢ wpc c (k0_part2 (F := F) xM hx oM ho sM hs cc0_scratch1 cc0_scratch2 cc0_scratch3 cc0_scratch4 cc0_scratch5 cc0_scratch6 c v2 v5 v9 v10 v11 v14 (SemArray.scalar (sig.barrier 0 rfl)) v31) Kt := by
  rw [k0_part2_eq_skeleton]; unfold k0_part2_skel
  simp only [semSignalWord, semWaitWord, Prog.lift, Prog.bind_op, Prog.bind_ret, Prog.pure_eq_ret, Prog.bind_assoc]
  iintro ⟨#HR, #Hlev, Ht2, Hb2, HO, Hat, Hc, Hx, Hsc, Hk⟩
  iapply (wp_sig X K c _ 2 (dev3_at c) rfl rfl (O₁ c) (OT c 16) rfl) $$ [Ht2 Hb2 HO]
  · isplitr; · iexact HR
    isplitl [HO]; · iexact HO
    isplitl [Ht2]; · iexact Ht2
    iexact Hb2
  iintro HO
  iapply (wp_bar X K c rfl rfl) $$ [HO Hat Hc]
  · isplitr; · iexact HR
    isplitr; · iexact Hlev
    isplitl [HO]; · iexact HO
    isplitl [Hat]; · iexact Hat
    iexact Hc
  iintro ⟨HO, Hat, Hq0, Hq1, Hq2⟩
  iapply (wp_xload X c) $$ Hx; iintro Hx
  icases Hsc with ⟨%f, Hsc⟩
  iapply (wp_sload c) $$ Hsc; iintro Hsc
  iapply (wp_fill1 X c) $$ Hsc; iintro ⟨Hs, Hsc⟩
  unfold wpc; rw [wp_ret]; imodintro
  iapply Hk $$ %_ [HO Hat Hq0 Hq1 Hq2 Hx Hs Hsc]
  · isplitl [HO]; · iexact HO
    isplitl [Hat]; · iexact Hat
    isplitl [Hq0]; · iexact Hq0
    isplitl [Hq1]; · iexact Hq1
    isplitl [Hq2]; · iexact Hq2
    isplitl [Hx]; · iexact Hx
    isplitl [Hs]; · iexact Hs
    iexact Hsc

/-- The next two transfers to the first neighbour, and the second store. -/
theorem part4_ok (c : Dev nD) (v5 v8 v9 v35 v47 v48 : BitVec 32) (Kt : (BitVec 32) → sProp 𝕄) :
    iprop(records X K ∗ levAts L lv ∗ sPts X c 2 ∗ Dst c 2 ∗ Tx c 2 ∗ sPts X c 3 ∗ Dst c 3 ∗ Tx c 3 ∗ xPts X c ∗ (∃ f, scrHi c f) ∗ ow c (OT c 14)
      ∗ (∀ r, (Arm c 2 ∗ Arm c 3 ∗ xPts X c ∗ (sPts X c 4 ∗ sPts X c 5) ∗ ow c (OT c 12)) -∗ Kt r))
      ⊢ wpc c (k0_part4 (F := F) xM hx oM ho sM hs cc0_scratch1 cc0_scratch2 cc0_scratch3 cc0_scratch4 cc0_scratch5 cc0_scratch6 c v5 v8 v9 v35 v47 v48) Kt := by
  rw [k0_part4_eq_skeleton]; unfold k0_part4_skel
  simp only [semSignalWord, semWaitWord, Prog.lift, Prog.bind_op, Prog.bind_ret, Prog.pure_eq_ret, Prog.bind_assoc]
  iintro ⟨#HR, #Hlev, Hs2, Hd2, HT2, Hs3, Hd3, HT3, Hx, Hsc, HO, Hk⟩
  iapply (wp_send_x X K c _ 2 (by decide) 2 rfl 13 rfl (dev6_at c) (sck_of 2 rfl _ _) (ock_of _ (off2_at2 c) _ _) rfl rfl) $$ [Hs2 Hd2 HT2 HO]
  · isplitr; · iexact HR
    isplitl [Hs2]; · iexact Hs2
    isplitl [Hd2]; · iexact Hd2
    isplitl [HT2]; · iexact HT2
    iexact HO
  iintro ⟨HA2, HO⟩
  iapply (wp_send_x X K c _ 3 (by decide) 3 rfl 12 rfl (dev7_at c) (sck_of 3 rfl _ _) (ock_of _ (off2_at3 c) _ _) rfl rfl) $$ [Hs3 Hd3 HT3 HO]
  · isplitr; · iexact HR
    isplitl [Hs3]; · iexact Hs3
    isplitl [Hd3]; · iexact Hd3
    isplitl [HT3]; · iexact HT3
    iexact HO
  iintro ⟨HA3, HO⟩
  icases Hsc with ⟨%f, Hsc⟩
  iapply (wp_xload X c) $$ Hx; iintro Hx
  iapply (wp_hload c) $$ Hsc; iintro Hsc
  iapply (wp_fill2 X c) $$ Hsc; iintro Hs
  unfold wpc; rw [wp_ret]; imodintro
  iapply Hk $$ %_ [HA2 HA3 Hx Hs HO]
  · isplitl [HA2]; · iexact HA2
    isplitl [HA3]; · iexact HA3
    isplitl [Hx]; · iexact Hx
    isplitl [Hs]; · iexact Hs
    iexact HO

end Cert.Proof

end
-- ==== Proof.Conds.lean ====
module

public import proofs.«01_k».proof.Proof.Fills
public import proofs.«01_k».proof.Proof.Gen.KernelIdeal.Skeleton

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Blocks F) (K : Dev nD × Fin 33 → ℕ)

attribute [local irreducible] k0_cond1 k0_cond2 k0_cond3 k0_cond4 k0_cond5 k0_cond6 k0_cond7 k0_cond8

/-- A wait made unless `P`, on the cell waited for already if `P`. -/
theorem wp_cwait (c : Dev nD) (k₀ : Fin 32) (P : Prop) [Decidable P] {B : BitVec 1} (hB : B = 1#1 ↔ ¬ P)
    {sem : DmaSem sig} (hs : sem = dS k₀) {src dst : B = 1#1 → Memref sig .tc .vmem S128x512 .bf16}
    {hsrc : ∀ h, (src h).view.WordExact} {hdst : ∀ h, (dst h).view.WordExact}
    {α : Type} {Q : α → sProp 𝕄} {T : Prog (TpuEff nD τ sig (Elt F) Λ₀ .tc) α} :
    iprop(records X K ∗ levAts L lv ∗ St P c k₀ ∗ ow c (OT c 0))
      ⊢ iprop(((Pl X P c k₀ ∗ Done c k₀ ∗ ow c (OT c 0)) -∗ wpc c T Q)
          -∗ wpc c (if h : B = 1#1 then .op (.waitDma2 sem (src h) (dst h) (hsrc h) (hdst h)) (fun _ => T) else T) Q) := by
  unfold St Pl
  by_cases hP : P
  · rw [if_pos hP, if_pos hP, dif_neg (fun h => hB.mp h hP)]
    iintro ⟨#HR, #Hlev, HD, HO⟩ Hk
    iapply Hk
    isplitr; · iempintro
    isplitl [HD]; · iexact HD
    iexact HO
  · rw [if_neg hP, if_neg hP, dif_pos (hB.mpr hP)]
    exact wp_dwait X K c k₀ 0 (fun t ht => by have := t.isLt; omega) hs (k := fun _ => T)

variable (hx : xM.IsWhole) (ho : oM.IsWhole) (hs : sM.IsWhole)

/-- The device's own rows of the result stored, and the waits for the last two chunks of the first neighbour and for the first of the second. -/
theorem part12_ok (c : Dev nD) (v2 v5 v8 v9 v10 v40 v49 v336 v367 : BitVec 32) (Kt : (Σ' (_ : BitVec 32), BitVec 32) → sProp 𝕄) :
    iprop(records X K ∗ levAts L lv ∗ xPts X c ∗ (∃ f, outHalf c f) ∗ Arm c 10 ∗ Arm c 11 ∗ St (0 = 2 * hJ c + 1) c 17 ∗ ow c (OT c 0)
      ∗ (∀ r, (xPts X c ∗ outHalf c (outF X c) ∗ kPay X c 10 ∗ Done c 10 ∗ kPay X c 11 ∗ Done c 11 ∗ Pl X (0 = 2 * hJ c + 1) c 17 ∗ Done c 17 ∗ ow c (OT c 0)) -∗ Kt r))
      ⊢ wpc c (k0_part12 (F := F) xM hx oM ho sM hs cc0_scratch1 cc0_scratch2 cc0_scratch3 cc0_scratch4 cc0_scratch5 cc0_scratch6 c v2 v5 v8 v9 v10 v40 v49 v336 v367) Kt := by
  rw [k0_part12_eq_skeleton]; unfold k0_part12_skel
  simp only [semSignalWord, semWaitWord, Prog.lift, Prog.bind_op, Prog.bind_ret, Prog.pure_eq_ret, Prog.bind_assoc]
  iintro ⟨#HR, #Hlev, Hx, Hoh, HA10, HA11, HA17, HO, Hk⟩
  iapply (wp_xload X c) $$ Hx; iintro Hx
  icases Hoh with ⟨%f, Hoh⟩
  iapply (wp_oload c) $$ Hoh; iintro Hoh
  iapply (wp_fill3 X c) $$ Hoh; iintro Hoh
  iapply (wp_dwait X K c 10 0 (by decide) rfl) $$ [HA10 HO]
  · isplitr; · iexact HR
    isplitr; · iexact Hlev
    isplitl [HA10]; · iexact HA10
    iexact HO
  iintro ⟨Hp10, HD10, HO⟩
  iapply (wp_dwait X K c 11 0 (by decide) rfl) $$ [HA11 HO]
  · isplitr; · iexact HR
    isplitr; · iexact Hlev
    isplitl [HA11]; · iexact HA11
    iexact HO
  iintro ⟨Hp11, HD11, HO⟩
  iapply (wp_cwait X K c 17 (0 = 2 * hJ c + 1) (cond1_at c) rfl) $$ [HA17 HO]
  · isplitr; · iexact HR
    isplitr; · iexact Hlev
    isplitl [HA17]; · iexact HA17
    iexact HO
  iintro ⟨Hp17, HD17, HO⟩
  unfold wpc; rw [wp_ret]; imodintro
  iapply Hk $$ %_ [Hx Hoh Hp10 HD10 Hp11 HD11 Hp17 HD17 HO]
  · isplitl [Hx]; · iexact Hx
    isplitl [Hoh]; · iexact Hoh
    isplitl [Hp10]; · iexact Hp10
    isplitl [HD10]; · iexact HD10
    isplitl [Hp11]; · iexact Hp11
    isplitl [HD11]; · iexact HD11
    isplitl [Hp17]; · iexact Hp17
    isplitl [HD17]; · iexact HD17
    iexact HO

/-- The waits for the rest of the chunks of the second neighbour, and for three of the third. -/
theorem part13_ok (c : Dev nD) (v2 v5 v8 v10 v14 v38 v40 v43 v49 v304 v336 v398 c0 : BitVec 32) (Kt : (BitVec 1) → sProp 𝕄) :
    iprop(records X K ∗ levAts L lv ∗ St (1 = 2 * hJ c + 1) c 18 ∗ St (2 = 2 * hJ c + 1) c 19 ∗ St (3 = 2 * hJ c + 1) c 20 ∗ Arm c 21 ∗ St (0 = 2 * (1 - hJ c)) c 27 ∗ St (1 = 2 * (1 - hJ c)) c 28 ∗ St (2 = 2 * (1 - hJ c)) c 29 ∗ ow c (OT c 0)
      ∗ (∀ r, (Pl X (1 = 2 * hJ c + 1) c 18 ∗ Done c 18 ∗ Pl X (2 = 2 * hJ c + 1) c 19 ∗ Done c 19 ∗ Pl X (3 = 2 * hJ c + 1) c 20 ∗ Done c 20 ∗ kPay X c 21 ∗ Done c 21 ∗ Pl X (0 = 2 * (1 - hJ c)) c 27 ∗ Done c 27 ∗ Pl X (1 = 2 * (1 - hJ c)) c 28 ∗ Done c 28 ∗ Pl X (2 = 2 * (1 - hJ c)) c 29 ∗ Done c 29 ∗ ow c (OT c 0)) -∗ Kt r))
      ⊢ wpc c (k0_part13 (F := F) xM hx oM ho sM hs cc0_scratch1 cc0_scratch2 cc0_scratch3 cc0_scratch4 cc0_scratch5 cc0_scratch6 c v2 v5 v8 v10 v14 v38 v40 v43 v49 v304 v336 v398 c0) Kt := by
  rw [k0_part13_eq_skeleton]; unfold k0_part13_skel
  simp only [semSignalWord, semWaitWord, Prog.lift, Prog.bind_op, Prog.bind_ret, Prog.pure_eq_ret, Prog.bind_assoc]
  iintro ⟨#HR, #Hlev, HA18, HA19, HA20, HA21, HA27, HA28, HA29, HO, Hk⟩
  iapply (wp_cwait X K c 18 (1 = 2 * hJ c + 1) (cond2_at c) rfl) $$ [HA18 HO]
  · isplitr; · iexact HR
    isplitr; · iexact Hlev
    isplitl [HA18]; · iexact HA18
    iexact HO
  iintro ⟨Hp18, HD18, HO⟩
  iapply (wp_cwait X K c 19 (2 = 2 * hJ c + 1) (cond3_at c) rfl) $$ [HA19 HO]
  · isplitr; · iexact HR
    isplitr; · iexact Hlev
    isplitl [HA19]; · iexact HA19
    iexact HO
  iintro ⟨Hp19, HD19, HO⟩
  iapply (wp_cwait X K c 20 (3 = 2 * hJ c + 1) (cond4_at c) rfl) $$ [HA20 HO]
  · isplitr; · iexact HR
    isplitr; · iexact Hlev
    isplitl [HA20]; · iexact HA20
    iexact HO
  iintro ⟨Hp20, HD20, HO⟩
  iapply (wp_dwait X K c 21 0 (by decide) rfl) $$ [HA21 HO]
  · isplitr; · iexact HR
    isplitr; · iexact Hlev
    isplitl [HA21]; · iexact HA21
    iexact HO
  iintro ⟨Hp21, HD21, HO⟩
  iapply (wp_cwait X K c 27 (0 = 2 * (1 - hJ c)) (cond5_at c) rfl) $$ [HA27 HO]
  · isplitr; · iexact HR
    isplitr; · iexact Hlev
    isplitl [HA27]; · iexact HA27
    iexact HO
  iintro ⟨Hp27, HD27, HO⟩
  iapply (wp_cwait X K c 28 (1 = 2 * (1 - hJ c)) (cond6_at c) rfl) $$ [HA28 HO]
  · isplitr; · iexact HR
    isplitr; · iexact Hlev
    isplitl [HA28]; · iexact HA28
    iexact HO
  iintro ⟨Hp28, HD28, HO⟩
  iapply (wp_cwait X K c 29 (2 = 2 * (1 - hJ c)) (cond7_at c) rfl) $$ [HA29 HO]
  · isplitr; · iexact HR
    isplitr; · iexact Hlev
    isplitl [HA29]; · iexact HA29
    iexact HO
  iintro ⟨Hp29, HD29, HO⟩
  unfold wpc; rw [wp_ret]; imodintro
  iapply Hk $$ %_ [Hp18 HD18 Hp19 HD19 Hp20 HD20 Hp21 HD21 Hp27 HD27 Hp28 HD28 Hp29 HD29 HO]
  · isplitl [Hp18]; · iexact Hp18
    isplitl [HD18]; · iexact HD18
    isplitl [Hp19]; · iexact Hp19
    isplitl [HD19]; · iexact HD19
    isplitl [Hp20]; · iexact Hp20
    isplitl [HD20]; · iexact HD20
    isplitl [Hp21]; · iexact Hp21
    isplitl [HD21]; · iexact HD21
    isplitl [Hp27]; · iexact Hp27
    isplitl [HD27]; · iexact HD27
    isplitl [Hp28]; · iexact Hp28
    isplitl [HD28]; · iexact HD28
    isplitl [Hp29]; · iexact Hp29
    isplitl [HD29]; · iexact HD29
    iexact HO

/-- The waits for the last two chunks of the third neighbour, and for the end of the first two sends. -/
theorem part14_ok (c : Dev nD) (v429 : BitVec 1) (v2 v5 v11 v14 v38 v43 v49 : BitVec 32) (Kt : (PUnit) → sProp 𝕄) :
    iprop(records X K ∗ levAts L lv ∗ St (3 = 2 * (1 - hJ c)) c 30 ∗ Arm c 31 ∗ Arm c 0 ∗ Arm c 1 ∗ ow c (OT c 0)
      ∗ (∀ r, (Pl X (3 = 2 * (1 - hJ c)) c 30 ∗ Done c 30 ∗ kPay X c 31 ∗ Done c 31 ∗ kPay X c 0 ∗ Done c 0 ∗ kPay X c 1 ∗ Done c 1 ∗ ow c (OT c 0)) -∗ Kt r))
      ⊢ wpc c (k0_part14 (F := F) xM hx oM ho sM hs cc0_scratch1 cc0_scratch2 cc0_scratch3 cc0_scratch4 cc0_scratch5 cc0_scratch6 c v2 v5 v11 v14 v38 v43 v49 v429) Kt := by
  rw [k0_part14_eq_skeleton]; unfold k0_part14_skel
  simp only [semSignalWord, semWaitWord, Prog.lift, Prog.bind_op, Prog.bind_ret, Prog.pure_eq_ret, Prog.bind_assoc]
  iintro ⟨#HR, #Hlev, HA30, HA31, HA0, HA1, HO, Hk⟩
  iapply (wp_cwait X K c 30 (3 = 2 * (1 - hJ c)) (cond8_at c) rfl) $$ [HA30 HO]
  · isplitr; · iexact HR
    isplitr; · iexact Hlev
    isplitl [HA30]; · iexact HA30
    iexact HO
  iintro ⟨Hp30, HD30, HO⟩
  iapply (wp_dwait X K c 31 0 (by decide) rfl) $$ [HA31 HO]
  · isplitr; · iexact HR
    isplitr; · iexact Hlev
    isplitl [HA31]; · iexact HA31
    iexact HO
  iintro ⟨Hp31, HD31, HO⟩
  iapply (wp_dwait X K c 0 0 (by decide) rfl) $$ [HA0 HO]
  · isplitr; · iexact HR
    isplitr; · iexact Hlev
    isplitl [HA0]; · iexact HA0
    iexact HO
  iintro ⟨Hp0, HD0, HO⟩
  iapply (wp_dwait X K c 1 0 (by decide) rfl) $$ [HA1 HO]
  · isplitr; · iexact HR
    isplitr; · iexact Hlev
    isplitl [HA1]; · iexact HA1
    iexact HO
  iintro ⟨Hp1, HD1, HO⟩
  unfold wpc; rw [wp_ret]; imodintro
  iapply Hk $$ %_ [Hp30 HD30 Hp31 HD31 Hp0 HD0 Hp1 HD1 HO]
  · isplitl [Hp30]; · iexact Hp30
    isplitl [HD30]; · iexact HD30
    isplitl [Hp31]; · iexact Hp31
    isplitl [HD31]; · iexact HD31
    isplitl [Hp0]; · iexact Hp0
    isplitl [HD0]; · iexact HD0
    isplitl [Hp1]; · iexact Hp1
    isplitl [HD1]; · iexact HD1
    iexact HO

end Cert.Proof

end
-- ==== Proof.Body.lean ====
module

public import proofs.«01_k».proof.Proof.Parts
public import proofs.«01_k».proof.Proof.Conds

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Blocks F) (K : Dev nD × Fin 33 → ℕ)

/-- A program run after another, as its continuation. -/
theorem wpc_bind (c : Dev nD) {α β : Type} (p : Prog (TpuEff nD τ sig (Elt F) Λ₀ .tc) α) (k : α → Prog (TpuEff nD τ sig (Elt F) Λ₀ .tc) β) (Q : β → sProp 𝕄) :
    wpc c p (fun r => wpc c (k r) Q) ⊢ wpc c (p >>= k) Q :=
  Entails.of_eq (wp_bind _ _ _ _ _ _).symm

theorem arms16 (c : Dev nD) : (bigSep Finset.univ fun t : Fin 16 => (Arm c (recvk t) : sProp 𝕄)) = iprop(Arm c 6 ∗ Arm c 7 ∗ Arm c 8 ∗ Arm c 9 ∗ Arm c 10 ∗ Arm c 11 ∗ Arm c 17 ∗ Arm c 27 ∗ Arm c 18 ∗ Arm c 28 ∗ Arm c 19 ∗ Arm c 29 ∗ Arm c 20 ∗ Arm c 30 ∗ Arm c 21 ∗ Arm c 31) :=
  bigSep_fin16 _
theorem pays16 (c : Dev nD) : (bigSep Finset.univ fun t : Fin 16 => (kPay X c (recvk t) : sProp 𝕄)) = iprop(kPay X c 6 ∗ kPay X c 7 ∗ kPay X c 8 ∗ kPay X c 9 ∗ kPay X c 10 ∗ kPay X c 11 ∗ kPay X c 17 ∗ kPay X c 27 ∗ kPay X c 18 ∗ kPay X c 28 ∗ kPay X c 19 ∗ kPay X c 29 ∗ kPay X c 20 ∗ kPay X c 30 ∗ kPay X c 21 ∗ kPay X c 31) :=
  bigSep_fin16 _
theorem fin32 (Φ : Fin 32 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25 ∗ Φ 26 ∗ Φ 27 ∗ Φ 28 ∗ Φ 29 ∗ Φ 30 ∗ Φ 31) :=
  bigSep_univ_eq_bigSepL [0, 1, 2, 3, 4, 5, 6, 7, 8, 9, 10, 11, 12, 13, 14, 15, 16, 17, 18, 19, 20, 21, 22, 23, 24, 25, 26, 27, 28, 29, 30, 31] (by decide) (by decide) Φ

/-- The send buffer is whole again once the sends are done. -/
theorem scr_back (c : Dev nD) : iprop(kPay X c 0 ∗ kPay X c 1 ∗ kPay X c 2 ∗ kPay X c 3 ∗ kPay X c 4 ∗ kPay X c 5) ⊢ scrAll c (scrF X c) := by
  refine BI.Entails.trans ?_ (scr_join X c)
  rw [show (kPay X c 0 : sProp 𝕄) = sPts X c 0 from kPay_send_x X c 0 (by decide) 0 rfl]
  rw [show (kPay X c 1 : sProp 𝕄) = sPts X c 1 from kPay_send_x X c 1 (by decide) 1 rfl]
  rw [show (kPay X c 2 : sProp 𝕄) = sPts X c 2 from kPay_send_x X c 2 (by decide) 2 rfl]
  rw [show (kPay X c 3 : sProp 𝕄) = sPts X c 3 from kPay_send_x X c 3 (by decide) 3 rfl]
  rw [show (kPay X c 4 : sProp 𝕄) = sPts X c 4 from kPay_send_x X c 4 (by decide) 4 rfl]
  rw [show (kPay X c 5 : sProp 𝕄) = sPts X c 5 from kPay_send_x X c 5 (by decide) 5 rfl]
  exact BI.Entails.refl _

/-- The result is whole, and finished, once all is waited for. -/
theorem out_back (c : Dev nD) : iprop(outHalf c (outF X c)
      ∗ (kPay X c 12 ∗ kPay X c 22 ∗ kPay X c 13 ∗ kPay X c 23 ∗ kPay X c 14 ∗ kPay X c 24 ∗ kPay X c 15 ∗ kPay X c 25)
      ∗ kPay X c 10 ∗ kPay X c 11 ∗ kPay X c 21 ∗ kPay X c 31
      ∗ (kPay X c 16 ∗ Pl X (0 = 2 * (1 - hJ c)) c 27 ∗ Pl X (1 = 2 * (1 - hJ c)) c 28 ∗ Pl X (2 = 2 * (1 - hJ c)) c 29 ∗ Pl X (3 = 2 * (1 - hJ c)) c 30)
      ∗ (kPay X c 26 ∗ Pl X (0 = 2 * hJ c + 1) c 17 ∗ Pl X (1 = 2 * hJ c + 1) c 18 ∗ Pl X (2 = 2 * hJ c + 1) c 19 ∗ Pl X (3 = 2 * hJ c + 1) c 20))
    ⊢ outAll c (outF X c) := by
  refine BI.Entails.trans ?_ (out_join X c)
  rw [pays16]
  change (_ : sProp 𝕄) ⊢ (_ : sProp 𝕄)
  iintro ⟨Ho, ⟨H12, H22, H13, H23, H14, H24, H15, H25⟩, H10, H11, H21, H31, Hz, Hy⟩
  ihave Hz := (z_back X c) $$ Hz
  icases Hz with ⟨H27, H28, H29, H30⟩
  ihave Hy := (y_back X c) $$ Hy
  icases Hy with ⟨H17, H18, H19, H20⟩
  ihave H6 := (kPay_halves X c 6 12 22 (by decide) rfl rfl).2 $$ [H12 H22]
  · isplitl [H12]; · iexact H12
    iexact H22
  ihave H7 := (kPay_halves X c 7 13 23 (by decide) rfl rfl).2 $$ [H13 H23]
  · isplitl [H13]; · iexact H13
    iexact H23
  ihave H8 := (kPay_halves X c 8 14 24 (by decide) rfl rfl).2 $$ [H14 H24]
  · isplitl [H14]; · iexact H14
    iexact H24
  ihave H9 := (kPay_halves X c 9 15 25 (by decide) rfl rfl).2 $$ [H15 H25]
  · isplitl [H15]; · iexact H15
    iexact H25
  isplitl [Ho]; · iexact Ho
  isplitl [H6]; · iexact H6
  isplitl [H7]; · iexact H7
  isplitl [H8]; · iexact H8
  isplitl [H9]; · iexact H9
  isplitl [H10]; · iexact H10
  isplitl [H11]; · iexact H11
  isplitl [H17]; · iexact H17
  isplitl [H27]; · iexact H27
  isplitl [H18]; · iexact H18
  isplitl [H28]; · iexact H28
  isplitl [H19]; · iexact H19
  isplitl [H29]; · iexact H29
  isplitl [H20]; · iexact H20
  isplitl [H30]; · iexact H30
  isplitl [H21]; · iexact H21
  iexact H31

set_option maxHeartbeats 4000000 in
/-- The kernel on device `c`: from its cells, its tokens and its buffers, to the finished result with all its cells waited for. -/
theorem body_run (hx : xM.IsWhole) (ho : oM.IsWhole) (hs : sM.IsWhole) (c : Dev nD) (Q : PUnit → sProp 𝕄) :
    iprop(records X K ∗ levAts L lv ∗ atPos ER (barCell c) 0 ∅ 0 ∗ cred (tallyAt (barCell c) () 3)
      ∗ (dutyTok ER (barCell (peerD 0 c)) 0 0 ∗ dutyTok ER (barCell (peerD 1 c)) 0 1 ∗ dutyTok ER (barCell (peerD 2 c)) 0 2)
      ∗ (bigSep Finset.univ fun t : Fin 16 => Tx (F := F) c t) ∗ (bigSep Finset.univ fun t : Fin 16 => Arm (F := F) c (recvk t))
      ∗ ow c (O₀ c) ∗ xPts X c ∗ (∃ f, outAll c f) ∗ (∃ f, scrAll c f)
      ∗ ((xPts X c ∗ outAll c (outF X c) ∗ scrAll c (scrF X c) ∗ atPos ER (barCell c) 1 ∅ 0 ∗ (bigSep Finset.univ fun k : Fin 32 => Done c k) ∗ ow c 0) -∗ Q ⟨⟩))
      ⊢ wpc c (cc0_body (F := F) xM hx oM ho sM hs cc0_scratch1 cc0_scratch2 cc0_scratch3 cc0_scratch4 cc0_scratch5 cc0_scratch6) Q := by
  rw [cc0_body_eq_skeleton]; unfold cc0_body_skel
  rw [bigSep_fin16, arms16, fin32]
  iintro ⟨#HR, #Hlev, Hat, Hc, ⟨Ht0, Ht1, Ht2⟩, ⟨HT0, HT1, HT2, HT3, HT4, HT5, HT6, HT7, HT8, HT9, HT10, HT11, HT12, HT13, HT14, HT15⟩, ⟨HA6, HA7, HA8, HA9, HA10, HA11, HA17, HA27, HA18, HA28, HA19, HA29, HA20, HA30, HA21, HA31⟩, HO, Hx, ⟨%f, Hout⟩, Hsc, Hk⟩
  ihave Hg := (bar_give c f) $$ Hout
  icases Hg with ⟨Hoh, Hb0, Hb1, Hb2⟩
  iapply (wpc_bind c _ _ _)
  iapply (part1_ok X K hx ho hs c _)
  isplitr; · iexact HR
  isplitr; · iexact Hlev
  isplitl [Ht0]; · iexact Ht0
  isplitl [Hb0]; · iexact Hb0
  isplitl [Ht1]; · iexact Ht1
  isplitl [Hb1]; · iexact Hb1
  isplitl [HO]; · iexact HO
  iintro %r %hr HO
  obtain ⟨d0, v2, v5, v8, v9, v10, v11, v14, v15, v31⟩ := r
  obtain ⟨h1, h2⟩ := hr
  dsimp only at h1 h2
  subst d0 v15
  dsimp only
  iapply (wpc_bind c _ _ _)
  iapply (part2_ok X K hx ho hs c _ _ _ _ _ _ _ _)
  isplitr; · iexact HR
  isplitr; · iexact Hlev
  isplitl [Ht2]; · iexact Ht2
  isplitl [Hb2]; · iexact Hb2
  isplitl [HO]; · iexact HO
  isplitl [Hat]; · iexact Hat
  isplitl [Hc]; · iexact Hc
  isplitl [Hx]; · iexact Hx
  isplitl [Hsc]; · iexact Hsc
  iintro %r ⟨HO, Hat, Hq0, Hq1, Hq2, Hx, Hs, Hsc⟩
  obtain ⟨v35, v38, v40, v43, v47, v48, v49, v63, c4⟩ := r
  dsimp only
  icases Hs with ⟨Hs0, Hs1, Hs2, Hs3⟩
  ihave Hd := (bar_take (F := F) c) $$ [Hq0 Hq1 Hq2]
  · isplitl [Hq0]; · iexact Hq0
    isplitl [Hq1]; · iexact Hq1
    iexact Hq2
  icases Hd with ⟨⟨Hc, Hd1, Hd2, Hd3, Hd4, Hd5⟩, ⟨Hd6, Hd8, Hd10, Hd12, Hd14⟩, ⟨Hd7, Hd9, Hd11, Hd13, Hd15⟩⟩
  iapply (wpc_bind c _ _ _)
  iapply (part3_ok X K hx ho hs c _ _ _ _ _ _ _ _)
  isplitr; · iexact HR
  isplitr; · iexact Hlev
  isplitl [Hs0]; · iexact Hs0
  isplitl [Hc]; · iexact Hc
  isplitl [HT0]; · iexact HT0
  isplitl [Hs1]; · iexact Hs1
  isplitl [Hd1]; · iexact Hd1
  isplitl [HT1]; · iexact HT1
  isplitl [HO]; · iexact HO
  iintro %r ⟨HA0, HA1, HO⟩
  iapply (wpc_bind c _ _ _)
  iapply (part4_ok X K hx ho hs c _ _ _ _ _ _ _)
  isplitr; · iexact HR
  isplitr; · iexact Hlev
  isplitl [Hs2]; · iexact Hs2
  isplitl [Hd2]; · iexact Hd2
  isplitl [HT2]; · iexact HT2
  isplitl [Hs3]; · iexact Hs3
  isplitl [Hd3]; · iexact Hd3
  isplitl [HT3]; · iexact HT3
  isplitl [Hx]; · iexact Hx
  isplitl [Hsc]; · iexact Hsc
  isplitl [HO]; · iexact HO
  iintro %v132 ⟨HA2, HA3, Hx, Hs, HO⟩
  icases Hs with ⟨Hs4, Hs5⟩
  iapply (wpc_bind c _ _ _)
  iapply (part5_ok X K hx ho hs c _ _ _ _ _ _ _ _)
  isplitr; · iexact HR
  isplitr; · iexact Hlev
  isplitl [Hs4]; · iexact Hs4
  isplitl [Hd4]; · iexact Hd4
  isplitl [HT4]; · iexact HT4
  isplitl [Hs5]; · iexact Hs5
  isplitl [Hd5]; · iexact Hd5
  isplitl [HT5]; · iexact HT5
  isplitl [HA6]; · iexact HA6
  isplitl [HO]; · iexact HO
  iintro %v165 ⟨HA4, HA5, Hp6, HD6, HO⟩
  iapply (wpc_bind c _ _ _)
  iapply (part6_ok X K hx ho hs c _ _ _ _ _ _ _ _ _)
  isplitr; · iexact HR
  isplitr; · iexact Hlev
  isplitl [Hp6]; · iexact Hp6
  isplitl [Hd6]; · iexact Hd6
  isplitl [HT6]; · iexact HT6
  isplitl [Hd7]; · iexact Hd7
  isplitl [HT7]; · iexact HT7
  isplitl [HO]; · iexact HO
  iintro %r ⟨HA12, HA22, HO⟩
  iapply (wpc_bind c _ _ _)
  iapply (part7_ok X K hx ho hs c _ _ _ _ _ _ _ _ _)
  isplitr; · iexact HR
  isplitr; · iexact Hlev
  isplitl [HA7]; · iexact HA7
  isplitl [Hd8]; · iexact Hd8
  isplitl [HT8]; · iexact HT8
  isplitl [Hd9]; · iexact Hd9
  isplitl [HT9]; · iexact HT9
  isplitl [HO]; · iexact HO
  iintro %r ⟨HD7, HA13, HA23, HO⟩
  obtain ⟨v230, v231⟩ := r
  dsimp only
  iapply (wpc_bind c _ _ _)
  iapply (part8_ok X K hx ho hs c _ _ _ _ _ _ _ _ _ _)
  isplitr; · iexact HR
  isplitr; · iexact Hlev
  isplitl [HA8]; · iexact HA8
  isplitl [Hd10]; · iexact Hd10
  isplitl [HT10]; · iexact HT10
  isplitl [Hd11]; · iexact Hd11
  isplitl [HT11]; · iexact HT11
  isplitl [HO]; · iexact HO
  iintro %r ⟨HD8, HA14, HA24, HO⟩
  iapply (wpc_bind c _ _ _)
  iapply (part9_ok X K hx ho hs c _ _ _ _ _ _ _ _ _)
  isplitr; · iexact HR
  isplitr; · iexact Hlev
  isplitl [HA9]; · iexact HA9
  isplitl [Hd12]; · iexact Hd12
  isplitl [HT12]; · iexact HT12
  isplitl [HO]; · iexact HO
  iintro %r ⟨HD9, HA15, Hp25, HO⟩
  ihave Hz := (z_take (F := F) c) $$ [HA27 HA28 HA29 HA30]
  · isplitl [HA27]; · iexact HA27
    isplitl [HA28]; · iexact HA28
    isplitl [HA29]; · iexact HA29
    iexact HA30
  icases Hz with ⟨HAz, Hwz⟩
  iapply (wpc_bind c _ _ _)
  iapply (part10_ok X K hx ho hs c _ _ _ _ _ _ _ _ _)
  isplitr; · iexact HR
  isplitr; · iexact Hlev
  isplitl [Hp25]; · iexact Hp25
  isplitl [Hd13]; · iexact Hd13
  isplitl [HT13]; · iexact HT13
  isplitl [HAz]; · iexact HAz
  isplitl [HO]; · iexact HO
  iintro %v304 ⟨HA25, Hp16, HDz, HO⟩
  ihave Hz := Hwz $$ HDz
  icases Hz with ⟨HA27, HA28, HA29, HA30⟩
  ihave Hy := (y_take (F := F) c) $$ [HA17 HA18 HA19 HA20]
  · isplitl [HA17]; · iexact HA17
    isplitl [HA18]; · iexact HA18
    isplitl [HA19]; · iexact HA19
    iexact HA20
  icases Hy with ⟨HAy, Hwy⟩
  iapply (wpc_bind c _ _ _)
  iapply (part11_ok X K hx ho hs c _ _ _ _ _ _ _ _ _)
  isplitr; · iexact HR
  isplitr; · iexact Hlev
  isplitl [Hp16]; · iexact Hp16
  isplitl [Hd14]; · iexact Hd14
  isplitl [HT14]; · iexact HT14
  isplitl [HAy]; · iexact HAy
  isplitl [Hd15]; · iexact Hd15
  isplitl [HT15]; · iexact HT15
  isplitl [HO]; · iexact HO
  iintro %r ⟨HA16, HDy, HA26, HO⟩
  obtain ⟨v336, v367⟩ := r
  dsimp only
  ihave Hy := Hwy $$ HDy
  icases Hy with ⟨HA17, HA18, HA19, HA20⟩
  iapply (wpc_bind c _ _ _)
  iapply (part12_ok X K hx ho hs c _ _ _ _ _ _ _ _ _ _)
  isplitr; · iexact HR
  isplitr; · iexact Hlev
  isplitl [Hx]; · iexact Hx
  isplitl [Hoh]; · iexists f; iexact Hoh
  isplitl [HA10]; · iexact HA10
  isplitl [HA11]; · iexact HA11
  isplitl [HA17]; · iexact HA17
  isplitl [HO]; · iexact HO
  iintro %r ⟨Hx, Hoh, Hp10, HD10, Hp11, HD11, Hp17, HD17, HO⟩
  obtain ⟨v398, c0⟩ := r
  dsimp only
  iapply (wpc_bind c _ _ _)
  iapply (part13_ok X K hx ho hs c _ _ _ _ _ _ _ _ _ _ _ _ _ _)
  isplitr; · iexact HR
  isplitr; · iexact Hlev
  isplitl [HA18]; · iexact HA18
  isplitl [HA19]; · iexact HA19
  isplitl [HA20]; · iexact HA20
  isplitl [HA21]; · iexact HA21
  isplitl [HA27]; · iexact HA27
  isplitl [HA28]; · iexact HA28
  isplitl [HA29]; · iexact HA29
  isplitl [HO]; · iexact HO
  iintro %v429 ⟨Hp18, HD18, Hp19, HD19, Hp20, HD20, Hp21, HD21, Hp27, HD27, Hp28, HD28, Hp29, HD29, HO⟩
  iapply (wpc_bind c _ _ _)
  iapply (part14_ok X K hx ho hs c _ _ _ _ _ _ _ _ _)
  isplitr; · iexact HR
  isplitr; · iexact Hlev
  isplitl [HA30]; · iexact HA30
  isplitl [HA31]; · iexact HA31
  isplitl [HA0]; · iexact HA0
  isplitl [HA1]; · iexact HA1
  isplitl [HO]; · iexact HO
  iintro %r ⟨Hp30, HD30, Hp31, HD31, Hp0, HD0, Hp1, HD1, HO⟩
  iapply (wpc_bind c _ _ _)
  iapply (part15_ok X K hx ho hs c _)
  isplitr; · iexact HR
  isplitr; · iexact Hlev
  isplitl [HA2]; · iexact HA2
  isplitl [HA3]; · iexact HA3
  isplitl [HA4]; · iexact HA4
  isplitl [HA5]; · iexact HA5
  isplitl [HA12]; · iexact HA12
  isplitl [HO]; · iexact HO
  iintro %r ⟨Hp2, HD2, Hp3, HD3, Hp4, HD4, Hp5, HD5, Hp12, HD12, HO⟩
  iapply (wpc_bind c _ _ _)
  iapply (part16_ok X K hx ho hs c _)
  isplitr; · iexact HR
  isplitr; · iexact Hlev
  isplitl [HA13]; · iexact HA13
  isplitl [HA14]; · iexact HA14
  isplitl [HA15]; · iexact HA15
  isplitl [HA16]; · iexact HA16
  isplitl [HA22]; · iexact HA22
  isplitl [HA23]; · iexact HA23
  isplitl [HO]; · iexact HO
  iintro %r ⟨Hp13, HD13, Hp14, HD14, Hp15, HD15, Hp16, HD16, Hp22, HD22, Hp23, HD23, HO⟩
  simp only [Prog.lift, Prog.bind_op, Prog.bind_ret, Prog.pure_eq_ret, Prog.bind_assoc]
  iapply (wp_dwait X K c 24 0 (by decide) rfl) $$ [HA24 HO]
  · isplitr; · iexact HR
    isplitr; · iexact Hlev
    isplitl [HA24]; · iexact HA24
    iexact HO
  iintro ⟨Hp24, HD24, HO⟩
  iapply (wp_dwait X K c 25 0 (by decide) rfl) $$ [HA25 HO]
  · isplitr; · iexact HR
    isplitr; · iexact Hlev
    isplitl [HA25]; · iexact HA25
    iexact HO
  iintro ⟨Hp25, HD25, HO⟩
  iapply (wp_dwait X K c 26 0 (by decide) rfl) $$ [HA26 HO]
  · isplitr; · iexact HR
    isplitr; · iexact Hlev
    isplitl [HA26]; · iexact HA26
    iexact HO
  iintro ⟨Hp26, HD26, HO⟩
  unfold wpc; rw [wp_ret]; imodintro
  iapply Hk
  isplitl [Hx]; · iexact Hx
  isplitl [Hoh Hp12 Hp22 Hp13 Hp23 Hp14 Hp24 Hp15 Hp25 Hp10 Hp11 Hp21 Hp31 Hp16 Hp27 Hp28 Hp29 Hp30 Hp26 Hp17 Hp18 Hp19 Hp20]
  · iapply (out_back X c)
    isplitl [Hoh]; · iexact Hoh
    isplitl [Hp12 Hp22 Hp13 Hp23 Hp14 Hp24 Hp15 Hp25]
    · isplitl [Hp12]; · iexact Hp12
      isplitl [Hp22]; · iexact Hp22
      isplitl [Hp13]; · iexact Hp13
      isplitl [Hp23]; · iexact Hp23
      isplitl [Hp14]; · iexact Hp14
      isplitl [Hp24]; · iexact Hp24
      isplitl [Hp15]; · iexact Hp15
      iexact Hp25
    isplitl [Hp10]; · iexact Hp10
    isplitl [Hp11]; · iexact Hp11
    isplitl [Hp21]; · iexact Hp21
    isplitl [Hp31]; · iexact Hp31
    isplitl [Hp16 Hp27 Hp28 Hp29 Hp30]
    · isplitl [Hp16]; · iexact Hp16
      isplitl [Hp27]; · iexact Hp27
      isplitl [Hp28]; · iexact Hp28
      isplitl [Hp29]; · iexact Hp29
      iexact Hp30
    isplitl [Hp26]; · iexact Hp26
    isplitl [Hp17]; · iexact Hp17
    isplitl [Hp18]; · iexact Hp18
    isplitl [Hp19]; · iexact Hp19
    iexact Hp20
  isplitl [Hp0 Hp1 Hp2 Hp3 Hp4 Hp5]
  · iapply (scr_back X c)
    isplitl [Hp0]; · iexact Hp0
    isplitl [Hp1]; · iexact Hp1
    isplitl [Hp2]; · iexact Hp2
    isplitl [Hp3]; · iexact Hp3
    isplitl [Hp4]; · iexact Hp4
    iexact Hp5
  isplitl [Hat]; · iexact Hat
  isplitl [HD0 HD1 HD2 HD3 HD4 HD5 HD6 HD7 HD8 HD9 HD10 HD11 HD12 HD13 HD14 HD15 HD16 HD17 HD18 HD19 HD20 HD21 HD22 HD23 HD24 HD25 HD26 HD27 HD28 HD29 HD30 HD31]
  · isplitl [HD0]; · iexact HD0
    isplitl [HD1]; · iexact HD1
    isplitl [HD2]; · iexact HD2
    isplitl [HD3]; · iexact HD3
    isplitl [HD4]; · iexact HD4
    isplitl [HD5]; · iexact HD5
    isplitl [HD6]; · iexact HD6
    isplitl [HD7]; · iexact HD7
    isplitl [HD8]; · iexact HD8
    isplitl [HD9]; · iexact HD9
    isplitl [HD10]; · iexact HD10
    isplitl [HD11]; · iexact HD11
    isplitl [HD12]; · iexact HD12
    isplitl [HD13]; · iexact HD13
    isplitl [HD14]; · iexact HD14
    isplitl [HD15]; · iexact HD15
    isplitl [HD16]; · iexact HD16
    isplitl [HD17]; · iexact HD17
    isplitl [HD18]; · iexact HD18
    isplitl [HD19]; · iexact HD19
    isplitl [HD20]; · iexact HD20
    isplitl [HD21]; · iexact HD21
    isplitl [HD22]; · iexact HD22
    isplitl [HD23]; · iexact HD23
    isplitl [HD24]; · iexact HD24
    isplitl [HD25]; · iexact HD25
    isplitl [HD26]; · iexact HD26
    isplitl [HD27]; · iexact HD27
    isplitl [HD28]; · iexact HD28
    isplitl [HD29]; · iexact HD29
    isplitl [HD30]; · iexact HD30
    iexact HD31
  iexact HO

end Cert.Proof

end
-- ==== Proof.Ghost.lean ====
module

public import proofs.«01_k».proof.Proof.Body
public import proofs.«01_k».proof.Proof.Gen.KernelIdeal.Launch

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Blocks F)

/-! ## The cells and the tokens of the launch -/

theorem ownSemFacts : Pipeline.OwnSemFacts cfg0.spec osem := by decide

theorem csem_injective : Function.Injective csem := by decide +kernel

theorem kcell_injective : Function.Injective (kcell : Dev nD × Fin 33 → GSem nD τ sig) := by
  rintro ⟨c, k⟩ ⟨c', k'⟩ h
  have h1 : c = c' := congrArg (fun g : GSem nD τ sig => g.1.1) h
  have h2 : k = k' := csem_injective (congrArg Prod.snd h)
  rw [h1, h2]
/-- Every cell of every device. -/
def allCells : Finset (GSem nD τ sig) := Finset.univ.map ⟨kcell, kcell_injective⟩

/-- The duties of a device's own cells: three on its barrier, one on each DMA cell. -/
def tokOf (cj : Dev nD × (Fin 3 ⊕ Fin 32)) : GSem nD τ sig × ℕ × Fin 3 :=
  (kcell (cj.1, Sum.elim (fun _ => 0) Fin.succ cj.2), 0, Sum.elim id (fun _ => 0) cj.2)
theorem tokOf_injective : Function.Injective tokOf := by
  rintro ⟨c, j⟩ ⟨c', j'⟩ h
  have h1 := kcell_injective (congrArg Prod.fst h)
  have hc : c = c' := congrArg Prod.fst h1
  have h2 : (Sum.elim (fun _ => 0) Fin.succ j : Fin 33) = Sum.elim (fun _ => 0) Fin.succ j' := congrArg Prod.snd h1
  have h3 : (Sum.elim id (fun _ => 0) j : Fin 3) = Sum.elim id (fun _ => 0) j' := congrArg (fun x : GSem nD τ sig × ℕ × Fin 3 => x.2.2) h
  have hj : j = j' := by
    rcases j with d | k <;> rcases j' with d' | k'
    · exact congrArg Sum.inl h3
    · exact absurd h2.symm (Fin.succ_ne_zero k')
    · exact absurd h2 (Fin.succ_ne_zero k)
    · exact congrArg Sum.inr (Fin.succ_injective _ h2)
  rw [hc, hj]
def allToks : Finset (GSem nD τ sig × ℕ × Fin 3) := Finset.univ.map ⟨tokOf, tokOf_injective⟩

def u₀ : UU :=
  (initOf (Pipeline.cells cfgs cellOf_inj) (Pipeline.launchToks cfgs cellOf_inj), initOf allCells allToks)

/-- The duty tokens of device `c`'s own cells. -/
def toks (c : Dev nD) : sProp 𝕄 :=
  iprop((bigSep Finset.univ fun d : Fin 3 => dutyTok ER (barCell c) 0 d) ∗ bigSep Finset.univ fun k : Fin 32 => dutyTok ER (dCell c k) 0 0)

/-- What the launch deals device `c`. -/
def G (c : Dev nD) : sProp 𝕄 :=
  iprop((bigSep Finset.univ fun k : Fin 33 => roundState ER (Rd X) (kcell (c, k)) 0)
    ∗ (bigSep Finset.univ fun k : Fin 33 => iprop(atPos ER (kcell (c, k)) 0 ∅ 0 ∗ reached ER (kcell (c, k)) 0)) ∗ toks c)

theorem cells_prod (Φ : GSem nD τ sig → sProp 𝕄) :
    bigSep allCells Φ = bigSep Finset.univ fun c : Dev nD => bigSep Finset.univ fun k : Fin 33 => Φ (kcell (c, k)) := by
  unfold allCells; rw [bigSep_map, bigSep_univ_prod]; rfl
theorem toks_prod : bigSep allToks (fun x => (dutyTok ER x.1 x.2.1 x.2.2 : sProp 𝕄)) = bigSep Finset.univ fun c : Dev nD => toks c := by
  unfold allToks; rw [bigSep_map, bigSep_univ_prod]
  exact bigSep_congr fun c _ => by unfold toks; rw [bigSep_univ_sum]; rfl

theorem fund_all : BI.own (ER (initOf allCells allToks)) ⊢ (|==> bigSep Finset.univ (G X) : sProp 𝕄) := by
  iintro HX
  imod (Rounds.fund ER (Rd X) allCells allToks) $$ HX with ⟨Hst, Hr, Hat, Htok⟩
  imodintro
  ihave Hst := (Entails.of_eq (cells_prod fun g => roundState ER (Rd X) g 0)) $$ Hst
  ihave Hat := (Entails.of_eq (cells_prod fun g => atPos ER g 0 ∅ 0)) $$ Hat
  ihave Hr := (Entails.of_eq (cells_prod fun g => reached ER g 0)) $$ Hr
  ihave Htok := (Entails.of_eq toks_prod) $$ Htok
  unfold G; simp only [bigSep_sep']
  isplitl [Hst]; · iexact Hst
  isplitl [Hat Hr]
  · isplitl [Hat] <;> iassumption
  iexact Htok

/-! ## The invariants -/

/-- A family over a device's cells: its barrier, and the DMA cells. -/
theorem fin33 (Φ : Fin 33 → sProp 𝕄) : bigSep Finset.univ Φ = iprop(Φ 0 ∗ bigSep Finset.univ fun k : Fin 32 => Φ k.succ) := by
  rw [fin32]
  exact bigSep_univ_eq_bigSepL [0, 1, 2, 3, 4, 5, 6, 7, 8, 9, 10, 11, 12, 13, 14, 15, 16, 17, 18, 19, 20, 21, 22, 23, 24, 25, 26, 27, 28, 29, 30, 31, 32] (by decide) (by decide) Φ

/-- The DMA cells are those of the sends and those of the receives. -/
theorem send_recv (Φ : Fin 32 → sProp 𝕄) : bigSep Finset.univ Φ
    ⊢ iprop((bigSep Finset.univ fun t : Fin 16 => Φ (sendk t)) ∗ bigSep Finset.univ fun t : Fin 16 => Φ (recvk t)) := by
  rw [fin32]
  refine BI.Entails.trans ?_ (Entails.of_eq (show iprop((Φ 0 ∗ Φ 1 ∗ Φ 2 ∗ Φ 3 ∗ Φ 4 ∗ Φ 5 ∗ Φ 12 ∗ Φ 22 ∗ Φ 13 ∗ Φ 23 ∗ Φ 14 ∗ Φ 24 ∗ Φ 15 ∗ Φ 25 ∗ Φ 16 ∗ Φ 26) ∗ Φ 6 ∗ Φ 7 ∗ Φ 8 ∗ Φ 9 ∗ Φ 10 ∗ Φ 11 ∗ Φ 17 ∗ Φ 27 ∗ Φ 18 ∗ Φ 28 ∗ Φ 19 ∗ Φ 29 ∗ Φ 20 ∗ Φ 30 ∗ Φ 21 ∗ Φ 31) = _ from by rw [bigSep_fin16, bigSep_fin16]; rfl))
  change (_ : sProp 𝕄) ⊢ (_ : sProp 𝕄)
  iintro ⟨H0, H1, H2, H3, H4, H5, H6, H7, H8, H9, H10, H11, H12, H13, H14, H15, H16, H17, H18, H19, H20, H21, H22, H23, H24, H25, H26, H27, H28, H29, H30, H31⟩
  isplitl [H0 H1 H2 H3 H4 H5 H12 H22 H13 H23 H14 H24 H15 H25 H16 H26]
  · isplitl [H0]; · iexact H0
    isplitl [H1]; · iexact H1
    isplitl [H2]; · iexact H2
    isplitl [H3]; · iexact H3
    isplitl [H4]; · iexact H4
    isplitl [H5]; · iexact H5
    isplitl [H12]; · iexact H12
    isplitl [H22]; · iexact H22
    isplitl [H13]; · iexact H13
    isplitl [H23]; · iexact H23
    isplitl [H14]; · iexact H14
    isplitl [H24]; · iexact H24
    isplitl [H15]; · iexact H15
    isplitl [H25]; · iexact H25
    isplitl [H16]; · iexact H16
    iexact H26
  isplitl [H6]; · iexact H6
  isplitl [H7]; · iexact H7
  isplitl [H8]; · iexact H8
  isplitl [H9]; · iexact H9
  isplitl [H10]; · iexact H10
  isplitl [H11]; · iexact H11
  isplitl [H17]; · iexact H17
  isplitl [H27]; · iexact H27
  isplitl [H18]; · iexact H18
  isplitl [H28]; · iexact H28
  isplitl [H19]; · iexact H19
  isplitl [H29]; · iexact H29
  isplitl [H20]; · iexact H20
  isplitl [H30]; · iexact H30
  isplitl [H21]; · iexact H21
  iexact H31

theorem ownSems0_eq (c : Dev nD) : (Pipeline.ownSems0 (Ix := Unit) (Name := ℕ) (U := UU) (Lvl := ℕ) (Val := Elt F) (τ := τ) osem c : sProp 𝕄)
    = bigSep Finset.univ fun k : Fin 32 => semVal (dCell c k) 0 := rfl
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 33 => semVal (kcell (c, k)) 0 : sProp 𝕄) := by
  rw [ownSems0_eq, unscopedSems0_eq, fin33]
  change (_ : sProp 𝕄) ⊢ (_ : sProp 𝕄)
  iintro ⟨HS, HB⟩
  isplitl [HB]; · iexact HB
  iexact HS

/-- Device `c` puts its cells under their invariants. -/
theorem core_alloc (c : Dev nD) :
    iprop(Pipeline.ownSems0 (Ix := Unit) (Name := ℕ) (U := UU) (Lvl := ℕ) (Val := Elt F) (τ := τ) osem c ∗ unscopedSems0 c ∗ G X c)
      ⊢ |={Set.univ}=> iprop((bigSep Finset.univ fun k => iprop(∃ κ : ℕ, cellInv ER (Rd X) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 33 => semVal (kcell (c, k)) 0) ∗ bigSep Finset.univ fun k : Fin 33 => roundState ER (Rd X) (kcell (c, k)) 0)
      ⊢ (|={Set.univ}=> bigSep Finset.univ fun k => iprop(∃ κ : ℕ, cellInv ER (Rd X) κ (kcell (c, k))) : sProp 𝕄) from by
        rw [← bigSep_sep']
        exact (bigSep_mono fun k _ => (Rounds.body_intro ER (Rd X) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The three signals device `c` gives, one to each neighbour. -/
def sigToks (c : Dev nD) : sProp 𝕄 :=
  iprop(dutyTok ER (barCell (peerD 0 c)) 0 0 ∗ dutyTok ER (barCell (peerD 1 c)) 0 1 ∗ dutyTok ER (barCell (peerD 2 c)) 0 2)
/-- What stays with device `c`: its positions, and the tokens of the duties it pays. -/
def linear (c : Dev nD) : sProp 𝕄 :=
  iprop(atPos ER (barCell c) 0 ∅ 0 ∗ sigToks c ∗ (bigSep Finset.univ fun t : Fin 16 => Tx (F := F) c t)
    ∗ bigSep Finset.univ fun t : Fin 16 => atPos ER (dCell c (recvk t)) 0 ∅ 0)
/-- What the launch makes of the shares dealt. -/
def G' (c : Dev nD) : sProp 𝕄 := iprop(∃ K, records X K ∗ linear c)

def peerEquiv (d : Fin 3) : Dev nD ≃ Dev nD := ⟨peerD d, peerD d, peerD_peerD d, peerD_peerD d⟩
theorem along_peer (d : Fin 3) (Φ : Dev nD → sProp 𝕄) : bigSep Finset.univ Φ = bigSep Finset.univ fun c => Φ (peerD d c) :=
  bigSep_univ_equiv (peerEquiv d) Φ

/-- The barrier's tokens dealt to the neighbours that use them. -/
theorem bars_around : (bigSep Finset.univ fun c : Dev nD => bigSep Finset.univ fun d : Fin 3 => (dutyTok ER (barCell c) 0 d : sProp 𝕄))
    ⊢ bigSep Finset.univ fun c : Dev nD => sigToks c := by
  unfold sigToks
  rw [bigSep_sep', bigSep_sep', bigSep_congr (s := Finset.univ) (fun (c : Dev nD) _ => bigSep_fin3 fun d => (dutyTok ER (barCell c) 0 d : sProp 𝕄)), bigSep_sep', bigSep_sep',
    along_peer 0 (fun c : Dev nD => (dutyTok ER (barCell c) 0 0 : sProp 𝕄)),
    along_peer 1 (fun c : Dev nD => (dutyTok ER (barCell c) 0 1 : sProp 𝕄)),
    along_peer 2 (fun c : Dev nD => (dutyTok ER (barCell c) 0 2 : sProp 𝕄))]

/-- The tokens of the receives dealt to the senders. -/
theorem recvs_around : (bigSep Finset.univ fun c : Dev nD => bigSep Finset.univ fun t : Fin 16 => (dutyTok ER (dCell c (recvk t)) 0 0 : sProp 𝕄))
    = bigSep Finset.univ fun c : Dev nD => bigSep Finset.univ fun t : Fin 16 => (dutyTok ER (dCell (peer t c) (recvk t)) 0 0 : sProp 𝕄) := by
  rw [bigSep_univ_comm, bigSep_univ_comm (fun (c : Dev nD) (t : Fin 16) => (dutyTok ER (dCell (peer t c) (recvk t)) 0 0 : sProp 𝕄))]
  exact bigSep_congr fun t _ => along_peer (tdir t) fun c => (dutyTok ER (dCell c (recvk t)) 0 0 : sProp 𝕄)

/-- A device's own tokens and positions, by sends and receives. -/
theorem own_split (c : Dev nD) : iprop((bigSep Finset.univ fun k : Fin 33 => (atPos ER (kcell (c, k)) 0 ∅ 0 : sProp 𝕄)) ∗ toks c)
    ⊢ iprop((atPos ER (barCell c) 0 ∅ 0 ∗ (bigSep Finset.univ fun t : Fin 16 => atPos ER (dCell c (recvk t)) 0 ∅ 0)
        ∗ (bigSep Finset.univ fun t : Fin 16 => dutyTok ER (dCell c (sendk t)) 0 0) ∗ bigSep Finset.univ fun t : Fin 16 => atPos ER (dCell c (sendk t)) 0 ∅ 0)
      ∗ (bigSep Finset.univ fun d : Fin 3 => dutyTok ER (barCell c) 0 d) ∗ bigSep Finset.univ fun t : Fin 16 => dutyTok ER (dCell c (recvk t)) 0 0) := by
  unfold toks
  rw [show (bigSep Finset.univ fun k : Fin 33 => (atPos ER (kcell (c, k)) 0 ∅ 0 : sProp 𝕄))
    = iprop(atPos ER (barCell c) 0 ∅ 0 ∗ bigSep Finset.univ fun k : Fin 32 => atPos ER (dCell c k) 0 ∅ 0) from fin33 _]
  change (_ : sProp 𝕄) ⊢ (_ : sProp 𝕄)
  iintro ⟨⟨HB, HD⟩, Hb, Hd⟩
  ihave HD := (send_recv fun k => (atPos ER (dCell c k) 0 ∅ 0 : sProp 𝕄)) $$ HD
  icases HD with ⟨HDs, HDr⟩
  ihave Hd := (send_recv fun k => (dutyTok ER (dCell c k) 0 0 : sProp 𝕄)) $$ Hd
  icases Hd with ⟨Hds, Hdr⟩
  isplitl [HB HDs HDr Hds]
  · isplitl [HB]; · iexact HB
    isplitl [HDr]; · iexact HDr
    isplitl [Hds]; · iexact Hds
    iexact HDs
  isplitl [Hb]; · iexact Hb
  iexact Hdr

/-- All the devices' tokens, dealt to the devices that use them. -/
theorem deal : (bigSep Finset.univ fun c : Dev nD => iprop((bigSep Finset.univ fun k : Fin 33 => (atPos ER (kcell (c, k)) 0 ∅ 0 : sProp 𝕄)) ∗ toks c))
    ⊢ bigSep Finset.univ fun c : Dev nD => linear (F := F) c := by
  refine (bigSep_mono fun c _ => own_split c).trans ?_
  unfold linear Tx
  rw [bigSep_congr (s := Finset.univ) (fun (c : Dev nD) _ => by rw [bigSep_sep', bigSep_sep'] :
    ∀ c ∈ (Finset.univ : Finset (Dev nD)), (iprop(atPos ER (barCell c) 0 ∅ 0 ∗ sigToks c
        ∗ (bigSep Finset.univ fun t : Fin 16 => iprop(dutyTok ER (dCell (peer t c) (recvk t)) 0 0 ∗ dutyTok ER (dCell c (sendk t)) 0 0 ∗ atPos ER (dCell c (sendk t)) 0 ∅ 0))
        ∗ bigSep Finset.univ fun t : Fin 16 => atPos ER (dCell c (recvk t)) 0 ∅ 0) : sProp 𝕄)
      = iprop(atPos ER (barCell c) 0 ∅ 0 ∗ sigToks c
        ∗ ((bigSep Finset.univ fun t : Fin 16 => dutyTok ER (dCell (peer t c) (recvk t)) 0 0) ∗ (bigSep Finset.univ fun t : Fin 16 => dutyTok ER (dCell c (sendk t)) 0 0)
          ∗ bigSep Finset.univ fun t : Fin 16 => atPos ER (dCell c (sendk t)) 0 ∅ 0)
        ∗ bigSep Finset.univ fun t : Fin 16 => atPos ER (dCell c (recvk t)) 0 ∅ 0))]
  simp only [bigSep_sep' (I := Dev nD)]
  change (_ : sProp 𝕄) ⊢ (_ : sProp 𝕄)
  iintro ⟨⟨HB, HDr, Hds, HDs⟩, Hb, Hdr⟩
  ihave Hb := (bars_around (F := F)) $$ Hb
  ihave Hdr := (Entails.of_eq (recvs_around (F := F))) $$ Hdr
  isplitl [HB]; · iexact HB
  isplitl [Hb]; · iexact Hb
  isplitl [Hdr Hds HDs]
  · isplitl [Hdr]; · iexact Hdr
    isplitl [Hds]; · iexact Hds
    iexact HDs
  iexact HDr

theorem regroup :
    (bigSep Finset.univ fun c : Dev nD => iprop((bigSep Finset.univ fun k => iprop(∃ κ : ℕ, cellInv ER (Rd X) κ (kcell (c, k))))
          ∗ (bigSep Finset.univ fun k => iprop(atPos ER (kcell (c, k)) 0 ∅ 0 ∗ reached ER (kcell (c, k)) 0)) ∗ toks c) : sProp 𝕄)
      ⊢ bigSep Finset.univ (G' X) := by
  rw [bigSep_sep', bigSep_sep', ← bigSep_univ_prod (fun ck : Dev nD × Fin 33 => iprop(∃ κ : ℕ, cellInv ER (Rd X) κ (kcell ck))),
    bigSep_congr (s := Finset.univ) (fun (c : Dev nD) _ => bigSep_sep' Finset.univ (fun k : Fin 33 => (atPos ER (kcell (c, k)) 0 ∅ 0 : sProp 𝕄)) (fun k => reached ER (kcell (c, k)) 0)),
    bigSep_sep', ← bigSep_univ_prod (fun ck : Dev nD × Fin 33 => (reached ER (kcell ck) 0 : sProp 𝕄))]
  iintro ⟨HI, ⟨Hat, #HR⟩, Htok⟩
  ihave HK := (BI.bigSep_exists_pi Finset.univ (fun (ck : Dev nD × Fin 33) (κ : ℕ) => (cellInv ER (Rd X) κ (kcell ck) : sProp 𝕄))) $$ HI
  icases HK with ⟨%K, #HI⟩
  iapply (bigSep_with_persistent (R := records X K) (Φ := linear) fun c _ => show iprop(records X K ∗ linear c) ⊢ G' X c from by
    unfold G'; iintro H; iexists K; iexact H)
  isplitr
  · unfold records; isplitl; · iexact HI
    iexact HR
  · iapply (deal (F := F))
    rw [bigSep_sep']
    isplitl [Hat]; · iexact Hat
    iexact Htok

/-- Every device's semaphores under their invariants, and the tokens dealt. -/
theorem glob : (bigSep Finset.univ fun c => iprop(Pipeline.ownSems0 (Ix := Unit) (Name := ℕ) (U := UU) (Lvl := ℕ) (Val := Elt F) (τ := τ) osem c ∗ unscopedSems0 c ∗ G X c) : sProp 𝕄)
    ⊢ |={Set.univ}=> bigSep Finset.univ (G' X) :=
  ((bigSep_mono fun c _ => core_alloc X c).trans (bigSep_fupd _ _)).trans (BI.fupd_mono (regroup X))

/-! ## The credits -/

theorem cred_peer (d : Fin 3) (sm : SemLoc sig) (n : ℕ) (c : Dev nD) :
    (Pipeline.launchCred (fun e => tallyAt ((peerD d e : Thread nD τ), sm) () n) c : sProp 𝕄) ⊢ cred (tallyAt ((c : Thread nD τ), sm) () n) :=
  Pipeline.launchCred_tallyAt sm (peerD d) (peerD d) (peerD_peerD d) (peerD_peerD d) () n c

/-- The credit of the transfers still owed, one more. -/
theorem cred_step (j : ℕ) (c : Dev nD) : (Pipeline.launchCred (fun e => OT e (j + 1)) c : sProp 𝕄)
    ⊢ iprop(Pipeline.launchCred (fun e => OT e j) c ∗ cred (tallyAt (dCell c (recvk ⟨15 - j, by omega⟩)) () N)) :=
  (Entails.of_eq (Pipeline.launchCred_add (fun e => OT e j) (fun e => tallyAt (dCell (peer ⟨15 - j, by omega⟩ e) (recvk ⟨15 - j, by omega⟩)) () N) c)).trans
    (sep_mono_right (cred_peer (tdir ⟨15 - j, by omega⟩) _ N c))

theorem creds_dma (c : Dev nD) : (Pipeline.launchCred (fun e => OT e 16) c : sProp 𝕄)
    ⊢ bigSep Finset.univ fun t : Fin 16 => cred (tallyAt (dCell c (recvk t)) () N) := by
  rw [bigSep_fin16]
  change (_ : sProp 𝕄) ⊢ (_ : sProp 𝕄)
  iintro H
  ihave H := (cred_step 15 c) $$ H
  icases H with ⟨H, H0⟩
  ihave H := (cred_step 14 c) $$ H
  icases H with ⟨H, H1⟩
  ihave H := (cred_step 13 c) $$ H
  icases H with ⟨H, H2⟩
  ihave H := (cred_step 12 c) $$ H
  icases H with ⟨H, H3⟩
  ihave H := (cred_step 11 c) $$ H
  icases H with ⟨H, H4⟩
  ihave H := (cred_step 10 c) $$ H
  icases H with ⟨H, H5⟩
  ihave H := (cred_step 9 c) $$ H
  icases H with ⟨H, H6⟩
  ihave H := (cred_step 8 c) $$ H
  icases H with ⟨H, H7⟩
  ihave H := (cred_step 7 c) $$ H
  icases H with ⟨H, H8⟩
  ihave H := (cred_step 6 c) $$ H
  icases H with ⟨H, H9⟩
  ihave H := (cred_step 5 c) $$ H
  icases H with ⟨H, H10⟩
  ihave H := (cred_step 4 c) $$ H
  icases H with ⟨H, H11⟩
  ihave H := (cred_step 3 c) $$ H
  icases H with ⟨H, H12⟩
  ihave H := (cred_step 2 c) $$ H
  icases H with ⟨H, H13⟩
  ihave H := (cred_step 1 c) $$ H
  icases H with ⟨H, H14⟩
  ihave H := (cred_step 0 c) $$ H
  icases H with ⟨H, H15⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

/-- Three units of a cell together. -/
theorem cred_three (g : GSem nD τ sig) : iprop((cred (tallyAt g () 1) : sProp 𝕄) ∗ cred (tallyAt g () 1) ∗ cred (tallyAt g () 1)) ⊢ cred (tallyAt g () 3) := by
  have e : (tallyAt g () 3 : CellTallies nD τ sig Unit) = tallyAt g () 1 + (tallyAt g () 1 + tallyAt g () 1) := by
    rw [tallyAt_add, tallyAt_add]
  rw [e]
  exact (sep_mono_right (cred_add _ _).2).trans (cred_add _ _).2

theorem creds (c : Dev nD) :
    (Pipeline.launchCred O₀ c : sProp 𝕄) ⊢ iprop(cred (tallyAt (barCell c) () 3) ∗ bigSep Finset.univ fun t : Fin 16 => cred (tallyAt (dCell c (recvk t)) () N)) := by
  refine (Entails.of_eq ((Pipeline.launchCred_add O₂ (fun e => tallyAt (barCell (xd e)) () 1) c).trans (by
    rw [show (O₂ : Dev nD → CellTallies nD τ sig Unit) = fun e => O₁ e + tallyAt (barCell (yd e)) () 1 from rfl, Pipeline.launchCred_add,
      show (O₁ : Dev nD → CellTallies nD τ sig Unit) = fun e => OT e 16 + tallyAt (barCell (zd e)) () 1 from rfl, Pipeline.launchCred_add]))).trans ?_
  change (_ : sProp 𝕄) ⊢ (_ : sProp 𝕄)
  iintro ⟨⟨⟨HT, Hz⟩, Hy⟩, Hx⟩
  ihave Hz := (show (Pipeline.launchCred (fun e => tallyAt (barCell (zd e)) () 1) c : sProp 𝕄) ⊢ cred (tallyAt (barCell c) () 1) from cred_peer 2 (.reg barS) 1 c) $$ Hz
  ihave Hy := (show (Pipeline.launchCred (fun e => tallyAt (barCell (yd e)) () 1) c : sProp 𝕄) ⊢ cred (tallyAt (barCell c) () 1) from cred_peer 1 (.reg barS) 1 c) $$ Hy
  ihave Hx := (show (Pipeline.launchCred (fun e => tallyAt (barCell (xd e)) () 1) c : sProp 𝕄) ⊢ cred (tallyAt (barCell c) () 1) from cred_peer 0 (.reg barS) 1 c) $$ Hx
  isplitl [Hx Hy Hz]
  · iapply (cred_three (F := F) (barCell c))
    isplitl [Hx]; · iexact Hx
    isplitl [Hy]; · iexact Hy
    iexact Hz
  iapply (creds_dma (F := F) c) $$ HT

end Cert.Proof

end
-- ==== Proof.Launch.lean ====
module

public import proofs.«01_k».proof.Proof.Ghost
public import proofs.«01_k».proof.Proof.Gen.KernelIdeal.Points
public import Idealize.ShloMosaic.Lib.Pipeline.Launch
public import Idealize.ShloMosaic.Lib.Pipeline.Kit
public import Idealize.ShloMosaic.Lib.Pipeline.CollectiveSegs

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

attribute [local irreducible] cc0_body

open Idealize.ShloMosaic.Pipeline (Dat Cfg Window BodyObligation cellOf)

variable (m : (ℓ : Loc nD τ sig) → Buf (Elt F) ℓ) (ρ : Dev nD → PrngReg)

/-- The memory the program starts from. -/
def s₀ : MemSt nD τ sig (Elt F) := ⟨m, fun _ => 0, ρ⟩

/-- What each device's window of `x` holds. -/
def xstg : Blocks F := fun c => (win0_0.blk (0 : Fin 1)).view.read (Elt F) ((s₀ m ρ).mem ((c : Thread nD τ).loc main_arg0))

/-- What device `c`'s body starts from besides its buffers. -/
def start (c : Dev nD) : sProp 𝕄 :=
  iprop(G' (xstg m ρ) c ∗ cred (tallyAt (barCell c) () 3) ∗ (bigSep Finset.univ fun t : Fin 16 => cred (tallyAt (dCell c (recvk t)) () N)) ∗ levAts L lv)
def Φ₀ (c : Dev nD) : sProp 𝕄 := iprop(start m ρ c ∗ ∃ f, scrAll c f)
/-- What it ends with: the send buffer, and every semaphore at zero. -/
def Φ₁ (c : Dev nD) : sProp 𝕄 :=
  iprop(scrAll c (scrF (xstg m ρ) c) ∗ (bigSep Finset.univ fun k : Fin 32 => semVal (dCell c k) 0) ∗ semVal (barCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outF (xstg m ρ) c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m ρ c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))
def bodyPost (c : Dev nD) : sProp 𝕄 :=
  iprop(Φ₁ m ρ c ∗ (dats m ρ 0 c).owesAt () t0_0.succ ∗ stg c cc0_stg0_0 (xstg m ρ c) ∗ stg c cc0_stg1_0 (outF (xstg m ρ) c))

/-- The cells closed: every semaphore of the device reads zero. -/
theorem close_all (X : Blocks F) (K : Dev nD × Fin 33 → ℕ) (c : Dev nD) :
    iprop(records X K ∗ atPos ER (barCell c) 1 ∅ 0 ∗ bigSep Finset.univ fun k : Fin 32 => Done c k)
      ⊢ (|={Set.univ}=> iprop((bigSep Finset.univ fun k : Fin 32 => semVal (dCell c k) 0) ∗ semVal (barCell c) 0) : sProp 𝕄) := by
  iintro ⟨#HR, Hb, Hd⟩
  imod (close_bar X K c) $$ [Hb] with Hb
  · isplitr; · iexact HR
    iexact Hb
  imod ((bigSep_with_persistent (R := records X K) fun k _ => close_dma X K c k).trans (bigSep_fupd _ _)) $$ [Hd] with Hd
  · isplitr; · iexact HR
    iexact Hd
  imodintro
  isplitl [Hd]; · iexact Hd
  iexact Hb

/-- The body run from its start to its end. -/
theorem sound_body (c : Dev nD) :
    bodyPre m ρ c ⊢ wpc c (cc0_body xM (Memref.isWhole_whole _) oM (Memref.isWhole_whole _) sM (Memref.isWhole_whole _)
      cc0_scratch1 cc0_scratch2 cc0_scratch3 cc0_scratch4 cc0_scratch5 cc0_scratch6) (fun _ => bodyPost m ρ c) := by
  unfold bodyPre Φ₀ start G' linear sigToks
  iintro ⟨⟨⟨⟨%K, #HR, HaB, Hsig, HTx, Hat⟩, HcB, Hc, Hlev⟩, Hscr⟩, Ho, ⟨%d0, %g0, %hg0, Hx⟩, ⟨%d1, %g1, %hg1, Hout⟩⟩
  have hx : g0 = xstg m ρ c := by rw [hg0]; unfold Dat.before; rw [if_pos (fetch0_0 t0_0)]; rfl
  subst hx
  unfold Dat.owesAt Pipeline.owesWithin
  icases Ho with ⟨%W, %hW, HO⟩
  rw [show (dats m ρ 0 c).owed t0_0.castSucc = O₀ c from rfl]
  iapply (wp_fupd frame (wpE (defs₀ (F := F)) 𝒱₀ (c : Thread nD τ) none) (E := Set.univ) _ (fun _ => bodyPost m ρ c))
  iapply (body_run (xstg m ρ) K (Memref.isWhole_whole _) (Memref.isWhole_whole _) (Memref.isWhole_whole _) c (fun _ => iprop(|={Set.univ}=> bodyPost m ρ c)))
  isplitr; · iexact HR
  isplitl [Hlev]; · iexact Hlev
  isplitl [HaB]; · iexact HaB
  isplitl [HcB]; · iexact HcB
  isplitl [Hsig]; · iexact Hsig
  isplitl [HTx]; · iexact HTx
  isplitl [Hat Hc]
  · unfold Arm; rw [bigSep_sep']
    isplitl [Hat] <;> iassumption
  isplitl [HO]; · unfold ow; iexists W; iexact HO
  isplitl [Hx]; · unfold xPts; iexact Hx
  isplitl [Hout]; · iexists g1; unfold outAll; iexact Hout
  isplitl [Hscr]; · iexact Hscr
  iintro ⟨Hx, Hout, Hscr, HaB, Hd, HO⟩
  imod (close_all (xstg m ρ) K c) $$ [HaB Hd] with ⟨Hd, HaB⟩
  · isplitr; · iexact HR
    isplitl [HaB] <;> iassumption
  imodintro
  unfold ow xPts outAll
  icases HO with ⟨%W', HO⟩
  unfold bodyPost Φ₁ Dat.owesAt Pipeline.owesWithin
  rw [show (dats m ρ 0 c).owed t0_0.succ = 0 from rfl]
  isplitl [Hscr HaB Hd]
  · isplitl [Hscr]; · iexact Hscr
    isplitl [Hd] <;> iassumption
  isplitl [HO]
  · iexists W'
    isplitr; · ipureintro; exact fun _ _ => Or.inl trivial
    iexact HO
  isplitl [Hx]
  · iexists _; isplitr; · (ipureintro; rfl)
    iexact Hx
  iexists _; isplitr; · (ipureintro; rfl)
  iexact Hout

set_option maxRecDepth 4000 in
/-- What the launch theorem asks of the body. -/
theorem body_obligation (c : Dev nD) : BodyObligation (dats (F := F) m ρ 0 c) (defs₀ (F := F)) 𝒱₀ () Set.univ := fun t => by
  rw [fin_N0 t, bigSep_W0, bigSep_W0]
  simp only [owns_whole]
  exact sound_body m ρ c

/-! ## The launch -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (xstg m ρ) c)
      ⊢ |={Set.univ}=> iprop(start m ρ c ∗ emp) := by
  iintro ⟨-, Hlev, Hcr, -, HG⟩
  ihave Hc := (creds (F := F) c) $$ Hcr
  icases Hc with ⟨H3, HN⟩
  imodintro
  unfold start
  isplitl
  · isplitl [HG]; · iexact HG
    isplitl [H3]; · iexact H3
    isplitl [HN]; · iexact HN
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scrAll
  iintro ⟨Hs, -, ⟨%f, Hr⟩⟩
  isplitl [Hs]; · iexact Hs
  iexists f; iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ m ρ c from rfl, scopedRest0_eq, ownSems0_eq, unscopedSems0_eq]
  unfold Φ₁ scrAll
  iintro ⟨Hr, HzD, HzB⟩
  isplitl [HzB]; · iexact HzB
  isplitl [HzD]; · iexact HzD
  iexists (scrF (xstg m ρ) c); iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters and over any float values, the program on all devices ends, with its arrays as
    computed and every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (xstg m ρ)) (G' := G' (xstg m ρ)) (u₀ := u₀)
    (hu₀ := by
      unfold u₀
      iintro Hu
      ihave H := (ownU_pair _ _) $$ Hu
      icases H with ⟨HP, HX⟩
      imod (fund_all (xstg m ρ)) $$ HX with HG
      imodintro
      isplitl [HP] <;> iassumption)
    (hglob := glob (xstg m ρ))
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The input array ends as it began. -/
theorem finalA_x (c : Dev nD) : finalA m ρ c (0 : Fin 2) = (s₀ m ρ).mem (win0_0.arr.view.loc (c : Thread nD τ)) :=
  (dats (F := F) m ρ 0 c).arrAt_in (0 : Fin 2) rfl _

end Cert.Proof

end
-- ==== Proof.Value.lean ====
module

public import proofs.«01_k».proof.Proof.Launch
public import Idealize.ShloMosaic.Lib.Layout
public import Idealize.ShloMosaic.Lib.Pipeline.ValueKit.Geometry

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- The window of `x` is the whole array. -/
theorem xstg_eq (c : Dev nD) : xstg m ρ c = m ((c : Thread nD τ).loc main_arg0) := by
  funext i
  show m ((c : Thread nD τ).loc main_arg0) ((win0_0.blk (0 : Fin 1)).view.emb i) = _
  refine congrArg (m ((c : Thread nD τ).loc main_arg0)) (funext fun a => Fin.ext ?_)
  blk_simp
  exact (congrArg (· + (i a).val) (Nat.zero_mul (win0_0.size a))).trans (Nat.zero_add _)

/-- The result array ends as the body left its window. -/
theorem finalA_out (c : Dev nD) : finalA m ρ c (1 : Fin 2) = outF (xstg m ρ) c :=
  (dats m ρ 0 c).arrAt_eq_of_after_last (1 : Fin 2) t0_0 (by decide +kernel) (outF (xstg m ρ) c) fun j => rfl

/-- What every run ends with: the result as computed, the input as it began, every semaphore at zero. -/
theorem run_out : θ_run defs (onTc (τ := τ) (main (F := F))) (s₀ m ρ) (fun r =>
    (∀ c : Dev nD, r.2.mem ((c : Thread nD τ).loc main_v1) = outF (fun d : Dev nD => m ((d : Thread nD τ).loc main_arg0)) c
      ∧ r.2.mem ((c : Thread nD τ).loc main_arg0) = m ((c : Thread nD τ).loc main_arg0))
    ∧ r.2.sem = fun _ => 0) :=
  (θ_run defs _ _).mono (fun r h => ⟨fun c => ⟨by
      have e := h.1 c (1 : Fin 2)
      rw [finalA_out, show xstg m ρ = fun d : Dev nD => m ((d : Thread nD τ).loc main_arg0) from funext (xstg_eq m ρ)] at e
      exact e, (h.1 c (0 : Fin 2)).trans (finalA_x m ρ c)⟩, h.2⟩) (run_main m ρ)

/-! ## The result against the whole array -/

/-- A device's coordinate along the first mesh axis. -/
theorem meshLin_first : ∀ c : Dev nD, Layout.meshLin [2, 2, 4] c.val [0] = hX c := by decide +kernel

/-- If each device's block is its half of the rows of `v`, its result is its half of the columns of `v`. -/
theorem outF_block (X : Blocks F) (v : (⟨2, ![4096, 1024]⟩ : Shape).Idx → Elt F .bf16)
    (hv : ∀ c : Dev nD, X c = Layout.blockN ⟨2, ![2048, 1024]⟩ ⟨2, ![4096, 1024]⟩ (Layout.meshBlock [2, 2, 4] ![[0], []] c) v) (c : Dev nD) :
    outF X c = Layout.blockN ⟨2, ![4096, 512]⟩ ⟨2, ![4096, 1024]⟩ (Layout.meshBlock [2, 2, 4] ![[], [0]] c) v := by
  funext i
  have hi : (i 0).val < 4096 := (i 0).isLt
  have hq : (i 1).val < 512 := (i 1).isLt
  have hn : hX (origin c ((i 0).val / 128)) = (i 0).val / 128 / 16 := hX_origin c ⟨(i 0).val / 128, by omega⟩
  have hc := hX_le c
  unfold outF
  rw [hv, Layout.blockN_apply, Layout.blockN_apply]
  refine congrArg v (funext fun a => Fin.ext ?_)
  fin_cases a
  · show Layout.meshLin [2, 2, 4] (origin c ((i 0).val / 128)).val [0] * 2048 + (i 0).val % 2048 = 0 * 4096 + (i 0).val
    rw [meshLin_first, hn]
    omega
  · show 0 * 1024 + (512 * hX c + (i 1).val) % 1024 = Layout.meshLin [2, 2, 4] c.val [0] * 512 + (i 1).val
    rw [meshLin_first]
    omega

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Value
public import Idealize.ShloMosaic.Lib.StableHlo.Run
public import Idealize.ShloMosaic.Adequacy
public import Idealize.ShloMosaic.Init

@[expose] public section

noncomputable section

namespace Cert.Proof

open Idealize.ShloMosaic Idealize.SL.Sem

/-- The kernel runs over any float values, its argument unchanged and every semaphore at zero. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD, r.2.mem ((c.tc : Thread Cert.KernelIdeal.nD Cert.KernelIdeal.τ).loc Cert.KernelIdeal.main_arg0)
        = m ((c.tc : Thread Cert.KernelIdeal.nD Cert.KernelIdeal.τ).loc Cert.KernelIdeal.main_arg0))
      ∧ r.2.sem = fun _ => 0) :=
  (θ_run (Cert.KernelIdeal.defs (F := F)) _ _).mono (fun _ h => ⟨fun c => (h.1 c).2, h.2⟩) (run_out m ρ)

theorem frame_ideal : Cert.quiescent_KernelIdeal := fun m ρ _ => frame_any (F := Ideal) m ρ

/-- The kernel as printed is the same text: its body table is the idealized kernel's. -/
theorem defs_eq {F : FTy → Type} [FloatOps F] : Cert.KernelIdeal.defs (F := F) = Cert.Kernel.defs (F := F) :=
  congrArg (Pipeline.defs Cert.KernelIdeal.pcfgs) (congrArg Defs.onTc (funext fun l => funext fun x => by
    match l, x with
    | ⟨0, _⟩, (t, s) => rfl
    | ⟨_ + 1, h⟩, _ => exact absurd h (Nat.not_lt.2 (Nat.le_add_left _ _))))

theorem frame_kernel : Cert.quiescent_Kernel := fun m ρ _ => by
  have h := frame_any (F := Bits) m ρ
  rw [defs_eq] at h
  exact h

/-- The reference, which returns its argument: its buffer ends as it began. -/
theorem run_reference (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => ∀ (d : Dev Cert.ReferenceIdeal.nD) (b : Ref Cert.ReferenceIdeal.sig .tc), r.2.mem ((d.tc : Thread Cert.ReferenceIdeal.nD Cert.ReferenceIdeal.τ).loc b)
        = m ((d.tc : Thread Cert.ReferenceIdeal.nD Cert.ReferenceIdeal.τ).loc b)) :=
  StableHlo.run_seq (by decide) (by decide) Cert.ReferenceIdeal.defs Cert.ReferenceIdeal.main (fun _ => []) (fun _ => rfl) (fun _ => trivial) m ρ

theorem frame_reference : Cert.quiescent_ReferenceIdeal := fun m ρ _ =>
  (θ_run (Cert.ReferenceIdeal.defs (F := Ideal)) _ _).mono (fun r h => ⟨fun c => h c Cert.ReferenceIdeal.main_arg0, sem_eq_zero_of_no_sems (by decide) r.2⟩) (run_reference m ρ)

/-- Each device's half of the rows becomes its half of the columns. -/
theorem algebraic : Cert.algebraic_KernelIdeal_ReferenceIdeal := fun m ρ m' ρ' _ hv =>
  ⟨m' (((0 : Dev Cert.ReferenceIdeal.nD).tc : Thread Cert.ReferenceIdeal.nD Cert.ReferenceIdeal.τ).loc Cert.ReferenceIdeal.main_arg0),
    (θ_run (Cert.KernelIdeal.defs (F := Ideal)) _ _).mono (fun _ h c => ⟨(h.1 c).1.trans (outF_block _ _ hv c), (h.1 c).2⟩) (run_out (F := Ideal) m ρ),
    (θ_run (Cert.ReferenceIdeal.defs (F := Ideal)) _ _).mono (fun _ h => ⟨h 0 Cert.ReferenceIdeal.main_arg0, h 0 Cert.ReferenceIdeal.main_arg0⟩) (run_reference m' ρ')⟩

theorem claim : Cert.Claim :=
  ⟨Cert.Kernel.Gen.facts, Cert.KernelIdeal.Gen.facts, Cert.ReferenceIdeal.Gen.facts,
    frame_kernel, frame_ideal, frame_reference, trivial, algebraic⟩

end Cert.Proof

end
